-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_v233) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x12x512x64 : Shape := ⟨4, ![8, 12, 512, 64]⟩
abbrev S2x8x512x1536 : Shape := ⟨4, ![2, 8, 512, 1536]⟩
abbrev S1x512x512 : Shape := ⟨3, ![1, 512, 512]⟩
abbrev S192x192 : Shape := ⟨2, ![192, 192]⟩
abbrev S64x192 : Shape := ⟨2, ![64, 192]⟩
abbrev S64 : Shape := ⟨1, ![64]⟩
abbrev S64x64 : Shape := ⟨2, ![64, 64]⟩
abbrev S256x64 : Shape := ⟨2, ![256, 64]⟩
abbrev S256 : Shape := ⟨1, ![256]⟩
abbrev S192x64 : Shape := ⟨2, ![192, 64]⟩
abbrev S1x64 : Shape := ⟨2, ![1, 64]⟩
abbrev S64x256 : Shape := ⟨2, ![64, 256]⟩
abbrev S1x256 : Shape := ⟨2, ![1, 256]⟩
abbrev S8x10x512x64 : Shape := ⟨4, ![8, 10, 512, 64]⟩
abbrev S8x6x512x256 : Shape := ⟨4, ![8, 6, 512, 256]⟩
abbrev S1x12x512x64 : Shape := ⟨4, ![1, 12, 512, 64]⟩
abbrev S2x1x512x1536 : Shape := ⟨4, ![2, 1, 512, 1536]⟩
abbrev S1x10x512x64 : Shape := ⟨4, ![1, 10, 512, 64]⟩
abbrev S1x6x512x256 : Shape := ⟨4, ![1, 6, 512, 256]⟩
abbrev S1536x640 : Shape := ⟨2, ![1536, 640]⟩
abbrev S10x512x64 : Shape := ⟨3, ![10, 512, 64]⟩
abbrev S1024x1536 : Shape := ⟨2, ![1024, 1536]⟩
abbrev S1x1x512x64 : Shape := ⟨4, ![1, 1, 512, 64]⟩
abbrev S512x64 : Shape := ⟨2, ![512, 64]⟩
abbrev S512x192 : Shape := ⟨2, ![512, 192]⟩
abbrev S1x512x64 : Shape := ⟨3, ![1, 512, 64]⟩
abbrev S1024x640 : Shape := ⟨2, ![1024, 640]⟩
abbrev S512 : Shape := ⟨1, ![512]⟩
abbrev S512x1 : Shape := ⟨2, ![512, 1]⟩
abbrev S1536x64 : Shape := ⟨2, ![1536, 64]⟩
abbrev S1024x64 : Shape := ⟨2, ![1024, 64]⟩
abbrev S3072x64 : Shape := ⟨2, ![3072, 64]⟩
abbrev S3072x256 : Shape := ⟨2, ![3072, 256]⟩
abbrev S6x512x256 : Shape := ⟨3, ![6, 512, 256]⟩

abbrev nBuf : Space → Nat
  | .hbm => 24
  | .vmem => 21
  | .smem => 0
  | _ => 0

abbrev bufTy : (tb : Table) → Fin (tcTables nBuf tb) → BufTy
  | .hbm, ⟨0, _⟩ => ⟨S8x12x512x64, .f32⟩
  | .hbm, ⟨1, _⟩ => ⟨S8x12x512x64, .f32⟩
  | .hbm, ⟨2, _⟩ => ⟨S2x8x512x1536, .f32⟩
  | .hbm, ⟨3, _⟩ => ⟨S1x512x512, .f32⟩
  | .hbm, ⟨4, _⟩ => ⟨S192x192, .f32⟩
  | .hbm, ⟨5, _⟩ => ⟨S64x192, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x64, .f32⟩
  | .hbm, ⟨10, _⟩ => ⟨S256, .f32⟩
  | .hbm, ⟨11, _⟩ => ⟨S64, .f32⟩
  | .hbm, ⟨12, _⟩ => ⟨S64, .f32⟩
  | .hbm, ⟨13, _⟩ => ⟨S192x192, .f32⟩
  | .hbm, ⟨14, _⟩ => ⟨S192x64, .f32⟩
  | .hbm, ⟨15, _⟩ => ⟨S1x64, .f32⟩
  | .hbm, ⟨16, _⟩ => ⟨S64x64, .f32⟩
  | .hbm, ⟨17, _⟩ => ⟨S1x64, .f32⟩
  | .hbm, ⟨18, _⟩ => ⟨S64x256, .f32⟩
  | .hbm, ⟨19, _⟩ => ⟨S1x256, .f32⟩
  | .hbm, ⟨20, _⟩ => ⟨S1x64, .f32⟩
  | .hbm, ⟨21, _⟩ => ⟨S1x64, .f32⟩
  | .hbm, ⟨22, _⟩ => ⟨S8x10x512x64, .f32⟩
  | .hbm, ⟨23, _⟩ => ⟨S8x6x512x256, .f32⟩
  | .local _ .vmem, ⟨0, _⟩ => ⟨S1x12x512x64, .f32⟩
  | .local _ .vmem, ⟨1, _⟩ => ⟨S1x12x512x64, .f32⟩
  | .local _ .vmem, ⟨2, _⟩ => ⟨S1x12x512x64, .f32⟩
  | .local _ .vmem, ⟨3, _⟩ => ⟨S1x12x512x64, .f32⟩
  | .local _ .vmem, ⟨4, _⟩ => ⟨S2x1x512x1536, .f32⟩
  | .local _ .vmem, ⟨5, _⟩ => ⟨S2x1x512x1536, .f32⟩
  | .local _ .vmem, ⟨6, _⟩ => ⟨S192x192, .f32⟩
  | .local _ .vmem, ⟨7, _⟩ => ⟨S192x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S64x256, .f32⟩
  | .local _ .vmem, ⟨12, _⟩ => ⟨S1x256, .f32⟩
  | .local _ .vmem, ⟨13, _⟩ => ⟨S1x64, .f32⟩
  | .local _ .vmem, ⟨14, _⟩ => ⟨S1x64, .f32⟩
  | .local _ .vmem, ⟨15, _⟩ => ⟨S1x10x512x64, .f32⟩
  | .local _ .vmem, ⟨16, _⟩ => ⟨S1x10x512x64, .f32⟩
  | .local _ .vmem, ⟨17, _⟩ => ⟨S1x6x512x256, .f32⟩
  | .local _ .vmem, ⟨18, _⟩ => ⟨S1x6x512x256, .f32⟩
  | .local _ .vmem, ⟨19, _⟩ => ⟨S1536x640, .f32⟩
  | .local _ .vmem, ⟨20, _⟩ => ⟨S10x512x64, .f32⟩
  | _, _ => ⟨S8x12x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x12x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x10x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x6x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "third" => some ((1 / 3 : ℝ) : EReal)
  | _ => none
-- ==== ReferenceIdeal.lean ====
abbrev S8x12x512x64 : Shape := ⟨4, ![8, 12, 512, 64]⟩
abbrev S2x8x512x1536 : Shape := ⟨4, ![2, 8, 512, 1536]⟩
abbrev S1x512x512 : Shape := ⟨3, ![1, 512, 512]⟩
abbrev S192x192 : Shape := ⟨2, ![192, 192]⟩
abbrev S64x192 : Shape := ⟨2, ![64, 192]⟩
abbrev S64 : Shape := ⟨1, ![64]⟩
abbrev S64x64 : Shape := ⟨2, ![64, 64]⟩
abbrev S256x64 : Shape := ⟨2, ![256, 64]⟩
abbrev S256 : Shape := ⟨1, ![256]⟩
abbrev S8x10x512x64 : Shape := ⟨4, ![8, 10, 512, 64]⟩
abbrev S8x10x512x1x64 : Shape := ⟨5, ![8, 10, 512, 1, 64]⟩
abbrev S8x10x512x3x64 : Shape := ⟨5, ![8, 10, 512, 3, 64]⟩
abbrev S8x10x512x192 : Shape := ⟨4, ![8, 10, 512, 192]⟩
abbrev S_ : Shape := ⟨0, ![]⟩
abbrev S8x10x3x512x64 : Shape := ⟨5, ![8, 10, 3, 512, 64]⟩
abbrev S8x10x1536x64 : Shape := ⟨4, ![8, 10, 1536, 64]⟩
abbrev S1x8x512x1536 : Shape := ⟨4, ![1, 8, 512, 1536]⟩
abbrev S8x512x1536 : Shape := ⟨3, ![8, 512, 1536]⟩
abbrev S8x1x512x1536 : Shape := ⟨4, ![8, 1, 512, 1536]⟩
abbrev S8x512x10x64 : Shape := ⟨4, ![8, 512, 10, 64]⟩
abbrev S192x64 : Shape := ⟨2, ![192, 64]⟩
abbrev S1x1x1x64 : Shape := ⟨4, ![1, 1, 1, 64]⟩
abbrev S8x1x512x64 : Shape := ⟨4, ![8, 1, 512, 64]⟩
abbrev S8x2x512x64 : Shape := ⟨4, ![8, 2, 512, 64]⟩
abbrev S8x3x512x64 : Shape := ⟨4, ![8, 3, 512, 64]⟩
abbrev S8x1x512x1x64 : Shape := ⟨5, ![8, 1, 512, 1, 64]⟩
abbrev S8x1x512x3x64 : Shape := ⟨5, ![8, 1, 512, 3, 64]⟩
abbrev S8x1x512x192 : Shape := ⟨4, ![8, 1, 512, 192]⟩
abbrev S8x1x3x512x64 : Shape := ⟨5, ![8, 1, 3, 512, 64]⟩
abbrev S8x1x1536x64 : Shape := ⟨4, ![8, 1, 1536, 64]⟩
abbrev S8x1536x64 : Shape := ⟨3, ![8, 1536, 64]⟩
abbrev S8x512x64 : Shape := ⟨3, ![8, 512, 64]⟩
abbrev S8x6x512x64 : Shape := ⟨4, ![8, 6, 512, 64]⟩
abbrev S64x256 : Shape := ⟨2, ![64, 256]⟩
abbrev S8x6x512x256 : Shape := ⟨4, ![8, 6, 512, 256]⟩
abbrev S1x1x1x256 : Shape := ⟨4, ![1, 1, 1, 256]⟩
abbrev S8x10x512 : Shape := ⟨3, ![8, 10, 512]⟩
abbrev S8x10x512x1 : Shape := ⟨4, ![8, 10, 512, 1]⟩

abbrev nBuf : Space → Nat
  | .hbm => 313
  | .vmem => 0
  | .smem => 0
  | _ => 0

abbrev hbmTy0_0 (i : Nat) : BufTy := match i % 128 with
  | 0 => ⟨S8x12x512x64, .f32⟩
  | 1 => ⟨S8x12x512x64, .f32⟩
  | 2 => ⟨S2x8x512x1536, .f32⟩
  | 3 => ⟨S1x512x512, .f32⟩
  | 4 => ⟨S192x192, .f32⟩
  | 5 => ⟨S64x192, .f32⟩
  | 6 => ⟨S64, .f32⟩
  | 7 => ⟨S64x64, .f32⟩
  | 8 => ⟨S64, .f32⟩
  | 9 => ⟨S256x64, .f32⟩
  | 10 => ⟨S256, .f32⟩
  | 11 => ⟨S64, .f32⟩
  | 12 => ⟨S64, .f32⟩
  | 13 => ⟨S8x10x512x64, .f32⟩
  | 14 => ⟨S8x10x512x64, .f32⟩
  | 15 => ⟨S8x10x512x64, .f32⟩
  | 16 => ⟨S8x10x512x1x64, .f32⟩
  | 17 => ⟨S8x10x512x1x64, .f32⟩
  | 18 => ⟨S8x10x512x1x64, .f32⟩
  | 19 => ⟨S8x10x512x3x64, .f32⟩
  | 20 => ⟨S8x10x512x192, .f32⟩
  | 21 => ⟨S192x192, .f32⟩
  | 22 => ⟨S8x10x512x192, .f32⟩
  | 23 => ⟨S8x10x512x192, .f32⟩
  | 24 => ⟨S8x10x512x3x64, .f32⟩
  | 25 => ⟨S_, .f32⟩
  | 26 => ⟨S8x10x512x64, .f32⟩
  | 27 => ⟨S_, .f32⟩
  | 28 => ⟨S8x10x512x64, .f32⟩
  | 29 => ⟨S8x10x512x64, .f32⟩
  | 30 => ⟨S8x10x3x512x64, .f32⟩
  | 31 => ⟨S8x10x1536x64, .f32⟩
  | 32 => ⟨S1x8x512x1536, .f32⟩
  | 33 => ⟨S8x512x1536, .f32⟩
  | 34 => ⟨S8x1x512x1536, .f32⟩
  | 35 => ⟨S8x512x1536, .f32⟩
  | 36 => ⟨S8x512x10x64, .f32⟩
  | 37 => ⟨S8x10x512x64, .f32⟩
  | 38 => ⟨S1x8x512x1536, .f32⟩
  | 39 => ⟨S8x512x1536, .f32⟩
  | 40 => ⟨S8x1x512x1536, .f32⟩
  | 41 => ⟨S8x512x1536, .f32⟩
  | 42 => ⟨S8x512x10x64, .f32⟩
  | 43 => ⟨S8x10x512x64, .f32⟩
  | 44 => ⟨S8x10x512x192, .f32⟩
  | 45 => ⟨S192x64, .f32⟩
  | 46 => ⟨S8x10x512x64, .f32⟩
  | 47 => ⟨S1x1x1x64, .f32⟩
  | 48 => ⟨S8x10x512x64, .f32⟩
  | 49 => ⟨S8x10x512x64, .f32⟩
  | 50 => ⟨S8x1x512x64, .f32⟩
  | 51 => ⟨S8x2x512x64, .f32⟩
  | 52 => ⟨S8x3x512x64, .f32⟩
  | 53 => ⟨S8x1x512x64, .f32⟩
  | 54 => ⟨S8x1x512x64, .f32⟩
  | 55 => ⟨S8x1x512x64, .f32⟩
  | 56 => ⟨S8x1x512x1x64, .f32⟩
  | 57 => ⟨S8x1x512x1x64, .f32⟩
  | 58 => ⟨S8x1x512x1x64, .f32⟩
  | 59 => ⟨S8x1x512x3x64, .f32⟩
  | 60 => ⟨S8x1x512x192, .f32⟩
  | 61 => ⟨S192x192, .f32⟩
  | 62 => ⟨S8x1x512x192, .f32⟩
  | 63 => ⟨S8x1x512x192, .f32⟩
  | 64 => ⟨S8x1x512x3x64, .f32⟩
  | 65 => ⟨S_, .f32⟩
  | 66 => ⟨S8x1x512x64, .f32⟩
  | 67 => ⟨S_, .f32⟩
  | 68 => ⟨S8x1x512x64, .f32⟩
  | 69 => ⟨S8x1x512x64, .f32⟩
  | 70 => ⟨S8x1x3x512x64, .f32⟩
  | 71 => ⟨S8x1x1536x64, .f32⟩
  | 72 => ⟨S1x8x512x1536, .f32⟩
  | 73 => ⟨S8x512x1536, .f32⟩
  | 74 => ⟨S8x1x512x1536, .f32⟩
  | 75 => ⟨S8x512x1536, .f32⟩
  | 76 => ⟨S8x1536x64, .f32⟩
  | 77 => ⟨S8x512x64, .f32⟩
  | 78 => ⟨S8x1x512x64, .f32⟩
  | 79 => ⟨S1x8x512x1536, .f32⟩
  | 80 => ⟨S8x512x1536, .f32⟩
  | 81 => ⟨S8x1x512x1536, .f32⟩
  | 82 => ⟨S8x512x1536, .f32⟩
  | 83 => ⟨S8x1536x64, .f32⟩
  | 84 => ⟨S8x512x64, .f32⟩
  | 85 => ⟨S8x1x512x64, .f32⟩
  | 86 => ⟨S8x1x512x192, .f32⟩
  | 87 => ⟨S192x64, .f32⟩
  | 88 => ⟨S8x1x512x64, .f32⟩
  | 89 => ⟨S1x1x1x64, .f32⟩
  | 90 => ⟨S8x1x512x64, .f32⟩
  | 91 => ⟨S8x1x512x64, .f32⟩
  | 92 => ⟨S8x1x512x64, .f32⟩
  | 93 => ⟨S8x3x512x64, .f32⟩
  | 94 => ⟨S8x1x512x64, .f32⟩
  | 95 => ⟨S8x1x512x64, .f32⟩
  | 96 => ⟨S8x1x512x64, .f32⟩
  | 97 => ⟨S8x1x512x1x64, .f32⟩
  | 98 => ⟨S8x1x512x1x64, .f32⟩
  | 99 => ⟨S8x1x512x1x64, .f32⟩
  | 100 => ⟨S8x1x512x3x64, .f32⟩
  | 101 => ⟨S8x1x512x192, .f32⟩
  | 102 => ⟨S192x192, .f32⟩
  | 103 => ⟨S8x1x512x192, .f32⟩
  | 104 => ⟨S8x1x512x192, .f32⟩
  | 105 => ⟨S8x1x512x3x64, .f32⟩
  | 106 => ⟨S_, .f32⟩
  | 107 => ⟨S8x1x512x64, .f32⟩
  | 108 => ⟨S_, .f32⟩
  | 109 => ⟨S8x1x512x64, .f32⟩
  | 110 => ⟨S8x1x512x64, .f32⟩
  | 111 => ⟨S8x1x3x512x64, .f32⟩
  | 112 => ⟨S8x1x1536x64, .f32⟩
  | 113 => ⟨S1x8x512x1536, .f32⟩
  | 114 => ⟨S8x512x1536, .f32⟩
  | 115 => ⟨S8x1x512x1536, .f32⟩
  | 116 => ⟨S8x512x1536, .f32⟩
  | 117 => ⟨S8x1536x64, .f32⟩
  | 118 => ⟨S8x512x64, .f32⟩
  | 119 => ⟨S8x1x512x64, .f32⟩
  | 120 => ⟨S1x8x512x1536, .f32⟩
  | 121 => ⟨S8x512x1536, .f32⟩
  | 122 => ⟨S8x1x512x1536, .f32⟩
  | 123 => ⟨S8x512x1536, .f32⟩
  | 124 => ⟨S8x1536x64, .f32⟩
  | 125 => ⟨S8x512x64, .f32⟩
  | 126 => ⟨S8x1x512x64, .f32⟩
  | 127 => ⟨S8x1x512x192, .f32⟩
  | _ => ⟨S8x12x512x64, .f32⟩

abbrev hbmTy0_1 (i : Nat) : BufTy := match i % 128 with
  | 0 => ⟨S192x64, .f32⟩
  | 1 => ⟨S8x1x512x64, .f32⟩
  | 2 => ⟨S1x1x1x64, .f32⟩
  | 3 => ⟨S8x1x512x64, .f32⟩
  | 4 => ⟨S8x1x512x64, .f32⟩
  | 5 => ⟨S8x3x512x64, .f32⟩
  | 6 => ⟨S8x1x512x64, .f32⟩
  | 7 => ⟨S8x1x512x64, .f32⟩
  | 8 => ⟨S8x1x512x64, .f32⟩
  | 9 => ⟨S8x1x512x1x64, .f32⟩
  | 10 => ⟨S8x1x512x1x64, .f32⟩
  | 11 => ⟨S8x1x512x1x64, .f32⟩
  | 12 => ⟨S8x1x512x3x64, .f32⟩
  | 13 => ⟨S8x1x512x192, .f32⟩
  | 14 => ⟨S192x192, .f32⟩
  | 15 => ⟨S8x1x512x192, .f32⟩
  | 16 => ⟨S8x1x512x192, .f32⟩
  | 17 => ⟨S8x1x512x3x64, .f32⟩
  | 18 => ⟨S_, .f32⟩
  | 19 => ⟨S8x1x512x64, .f32⟩
  | 20 => ⟨S_, .f32⟩
  | 21 => ⟨S8x1x512x64, .f32⟩
  | 22 => ⟨S8x1x512x64, .f32⟩
  | 23 => ⟨S8x1x3x512x64, .f32⟩
  | 24 => ⟨S8x1x1536x64, .f32⟩
  | 25 => ⟨S1x8x512x1536, .f32⟩
  | 26 => ⟨S8x512x1536, .f32⟩
  | 27 => ⟨S8x1x512x1536, .f32⟩
  | 28 => ⟨S8x512x1536, .f32⟩
  | 29 => ⟨S8x1536x64, .f32⟩
  | 30 => ⟨S8x512x64, .f32⟩
  | 31 => ⟨S8x1x512x64, .f32⟩
  | 32 => ⟨S1x8x512x1536, .f32⟩
  | 33 => ⟨S8x512x1536, .f32⟩
  | 34 => ⟨S8x1x512x1536, .f32⟩
  | 35 => ⟨S8x512x1536, .f32⟩
  | 36 => ⟨S8x1536x64, .f32⟩
  | 37 => ⟨S8x512x64, .f32⟩
  | 38 => ⟨S8x1x512x64, .f32⟩
  | 39 => ⟨S8x1x512x192, .f32⟩
  | 40 => ⟨S192x64, .f32⟩
  | 41 => ⟨S8x1x512x64, .f32⟩
  | 42 => ⟨S1x1x1x64, .f32⟩
  | 43 => ⟨S8x1x512x64, .f32⟩
  | 44 => ⟨S8x1x512x64, .f32⟩
  | 45 => ⟨S8x3x512x64, .f32⟩
  | 46 => ⟨S8x1x512x64, .f32⟩
  | 47 => ⟨S8x1x512x64, .f32⟩
  | 48 => ⟨S8x1x512x64, .f32⟩
  | 49 => ⟨S8x1x512x1x64, .f32⟩
  | 50 => ⟨S8x1x512x1x64, .f32⟩
  | 51 => ⟨S8x1x512x1x64, .f32⟩
  | 52 => ⟨S8x1x512x3x64, .f32⟩
  | 53 => ⟨S8x1x512x192, .f32⟩
  | 54 => ⟨S192x192, .f32⟩
  | 55 => ⟨S8x1x512x192, .f32⟩
  | 56 => ⟨S8x1x512x192, .f32⟩
  | 57 => ⟨S8x1x512x3x64, .f32⟩
  | 58 => ⟨S_, .f32⟩
  | 59 => ⟨S8x1x512x64, .f32⟩
  | 60 => ⟨S_, .f32⟩
  | 61 => ⟨S8x1x512x64, .f32⟩
  | 62 => ⟨S8x1x512x64, .f32⟩
  | 63 => ⟨S8x1x3x512x64, .f32⟩
  | 64 => ⟨S8x1x1536x64, .f32⟩
  | 65 => ⟨S1x8x512x1536, .f32⟩
  | 66 => ⟨S8x512x1536, .f32⟩
  | 67 => ⟨S8x1x512x1536, .f32⟩
  | 68 => ⟨S8x512x1536, .f32⟩
  | 69 => ⟨S8x1536x64, .f32⟩
  | 70 => ⟨S8x512x64, .f32⟩
  | 71 => ⟨S8x1x512x64, .f32⟩
  | 72 => ⟨S1x8x512x1536, .f32⟩
  | 73 => ⟨S8x512x1536, .f32⟩
  | 74 => ⟨S8x1x512x1536, .f32⟩
  | 75 => ⟨S8x512x1536, .f32⟩
  | 76 => ⟨S8x1536x64, .f32⟩
  | 77 => ⟨S8x512x64, .f32⟩
  | 78 => ⟨S8x1x512x64, .f32⟩
  | 79 => ⟨S8x1x512x192, .f32⟩
  | 80 => ⟨S192x64, .f32⟩
  | 81 => ⟨S8x1x512x64, .f32⟩
  | 82 => ⟨S1x1x1x64, .f32⟩
  | 83 => ⟨S8x1x512x64, .f32⟩
  | 84 => ⟨S8x1x512x64, .f32⟩
  | 85 => ⟨S8x3x512x64, .f32⟩
  | 86 => ⟨S8x1x512x64, .f32⟩
  | 87 => ⟨S8x1x512x64, .f32⟩
  | 88 => ⟨S8x1x512x64, .f32⟩
  | 89 => ⟨S8x1x512x1x64, .f32⟩
  | 90 => ⟨S8x1x512x1x64, .f32⟩
  | 91 => ⟨S8x1x512x1x64, .f32⟩
  | 92 => ⟨S8x1x512x3x64, .f32⟩
  | 93 => ⟨S8x1x512x192, .f32⟩
  | 94 => ⟨S192x192, .f32⟩
  | 95 => ⟨S8x1x512x192, .f32⟩
  | 96 => ⟨S8x1x512x192, .f32⟩
  | 97 => ⟨S8x1x512x3x64, .f32⟩
  | 98 => ⟨S_, .f32⟩
  | 99 => ⟨S8x1x512x64, .f32⟩
  | 100 => ⟨S_, .f32⟩
  | 101 => ⟨S8x1x512x64, .f32⟩
  | 102 => ⟨S8x1x512x64, .f32⟩
  | 103 => ⟨S8x1x3x512x64, .f32⟩
  | 104 => ⟨S8x1x1536x64, .f32⟩
  | 105 => ⟨S1x8x512x1536, .f32⟩
  | 106 => ⟨S8x512x1536, .f32⟩
  | 107 => ⟨S8x1x512x1536, .f32⟩
  | 108 => ⟨S8x512x1536, .f32⟩
  | 109 => ⟨S8x1536x64, .f32⟩
  | 110 => ⟨S8x512x64, .f32⟩
  | 111 => ⟨S8x1x512x64, .f32⟩
  | 112 => ⟨S1x8x512x1536, .f32⟩
  | 113 => ⟨S8x512x1536, .f32⟩
  | 114 => ⟨S8x1x512x1536, .f32⟩
  | 115 => ⟨S8x512x1536, .f32⟩
  | 116 => ⟨S8x1536x64, .f32⟩
  | 117 => ⟨S8x512x64, .f32⟩
  | 118 => ⟨S8x1x512x64, .f32⟩
  | 119 => ⟨S8x1x512x192, .f32⟩
  | 120 => ⟨S192x64, .f32⟩
  | 121 => ⟨S8x1x512x64, .f32⟩
  | 122 => ⟨S1x1x1x64, .f32⟩
  | 123 => ⟨S8x1x512x64, .f32⟩
  | 124 => ⟨S8x1x512x64, .f32⟩
  | 125 => ⟨S8x6x512x64, .f32⟩
  | 126 => ⟨S64x256, .f32⟩
  | 127 => ⟨S8x6x512x256, .f32⟩
  | _ => ⟨S8x12x512x64, .f32⟩

abbrev hbmTy0_2 (i : Nat) : BufTy := match i % 128 with
  | 0 => ⟨S1x1x1x256, .f32⟩
  | 1 => ⟨S8x6x512x256, .f32⟩
  | 2 => ⟨S8x6x512x256, .f32⟩
  | 3 => ⟨S64x64, .f32⟩
  | 4 => ⟨S8x10x512x64, .f32⟩
  | 5 => ⟨S1x1x1x64, .f32⟩
  | 6 => ⟨S8x10x512x64, .f32⟩
  | 7 => ⟨S8x10x512x64, .f32⟩
  | 8 => ⟨S8x10x512x64, .f32⟩
  | 9 => ⟨S_, .f32⟩
  | 10 => ⟨S8x10x512x64, .f32⟩
  | 11 => ⟨S8x10x512x64, .f32⟩
  | 12 => ⟨S8x10x512x64, .f32⟩
  | 13 => ⟨S_, .f32⟩
  | 14 => ⟨S8x10x512, .f32⟩
  | 15 => ⟨S8x10x512x1, .f32⟩
  | 16 => ⟨S_, .f32⟩
  | 17 => ⟨S8x10x512x1, .f32⟩
  | 18 => ⟨S8x10x512x1, .f32⟩
  | 19 => ⟨S_, .i32⟩
  | 20 => ⟨S_, .f32⟩
  | 21 => ⟨S8x10x512, .f32⟩
  | 22 => ⟨S8x10x512x1, .f32⟩
  | 23 => ⟨S_, .f32⟩
  | 24 => ⟨S8x10x512x1, .f32⟩
  | 25 => ⟨S8x10x512x1, .f32⟩
  | 26 => ⟨S8x10x512x64, .f32⟩
  | 27 => ⟨S8x10x512x64, .f32⟩
  | 28 => ⟨S8x10x512x64, .f32⟩
  | 29 => ⟨S_, .f32⟩
  | 30 => ⟨S_, .f32⟩
  | 31 => ⟨S_, .f32⟩
  | 32 => ⟨S_, .f32⟩
  | 33 => ⟨S8x10x512, .f32⟩
  | 34 => ⟨S8x10x512x1, .f32⟩
  | 35 => ⟨S8x10x512x1, .f32⟩
  | 36 => ⟨S8x10x512x1, .f32⟩
  | 37 => ⟨S_, .f32⟩
  | 38 => ⟨S_, .i1⟩
  | 39 => ⟨S_, .f32⟩
  | 40 => ⟨S_, .f32⟩
  | 41 => ⟨S8x10x512x1, .f32⟩
  | 42 => ⟨S8x10x512x1, .f32⟩
  | 43 => ⟨S8x10x512x64, .f32⟩
  | 44 => ⟨S8x10x512x64, .f32⟩
  | 45 => ⟨S_, .f32⟩
  | 46 => ⟨S8x10x512x1, .f32⟩
  | 47 => ⟨S8x10x512x1, .f32⟩
  | 48 => ⟨S8x10x512x1, .f32⟩
  | 49 => ⟨S8x10x512x64, .f32⟩
  | 50 => ⟨S8x10x512x64, .f32⟩
  | 51 => ⟨S1x1x1x64, .f32⟩
  | 52 => ⟨S8x10x512x64, .f32⟩
  | 53 => ⟨S8x10x512x64, .f32⟩
  | 54 => ⟨S1x1x1x64, .f32⟩
  | 55 => ⟨S8x10x512x64, .f32⟩
  | 56 => ⟨S8x10x512x64, .f32⟩
  | _ => ⟨S8x12x512x64, .f32⟩

abbrev hbmTy (i : Nat) : BufTy := match i / 128 with
  | 0 => hbmTy0_0 i
  | 1 => hbmTy0_1 i
  | 2 => hbmTy0_2 i
  | _ => ⟨S8x12x512x64, .f32⟩

abbrev bufTy : (tb : Table) → Fin (tcTables nBuf tb) → BufTy
  | .hbm, ⟨i, _⟩ => hbmTy i
  | _, _ => ⟨S8x12x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_1 : Ref sig .tc := ⟨.hbm, 65, rfl⟩
abbrev main_v50 : Ref sig .tc := ⟨.hbm, 66, rfl⟩
abbrev main_cst_2 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_3 : Ref sig .tc := ⟨.hbm, 106, rfl⟩
abbrev main_v89 : Ref sig .tc := ⟨.hbm, 107, rfl⟩
abbrev main_cst_4 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_cst_5 : Ref sig .tc := ⟨.hbm, 146, rfl⟩
abbrev main_v127 : Ref sig .tc := ⟨.hbm, 147, rfl⟩
abbrev main_cst_6 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_cst_7 : Ref sig .tc := ⟨.hbm, 186, rfl⟩
abbrev main_v165 : Ref sig .tc := ⟨.hbm, 187, rfl⟩
abbrev main_cst_8 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_cst_9 : Ref sig .tc := ⟨.hbm, 226, rfl⟩
abbrev main_v203 : Ref sig .tc := ⟨.hbm, 227, rfl⟩
abbrev main_cst_10 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_call0_cst : Ref sig .tc := ⟨.hbm, 265, rfl⟩
abbrev main_call0_v0 : Ref sig .tc := ⟨.hbm, 266, rfl⟩
abbrev main_v240 : Ref sig .tc := ⟨.hbm, 267, rfl⟩
abbrev main_v241 : Ref sig .tc := ⟨.hbm, 268, rfl⟩
abbrev main_cst_11 : Ref sig .tc := ⟨.hbm, 269, rfl⟩
abbrev main_v242 : Ref sig .tc := ⟨.hbm, 270, rfl⟩
abbrev main_v243 : Ref sig .tc := ⟨.hbm, 271, rfl⟩
abbrev main_cst_12 : Ref sig .tc := ⟨.hbm, 272, rfl⟩
abbrev main_v244 : Ref sig .tc := ⟨.hbm, 273, rfl⟩
abbrev main_v245 : Ref sig .tc := ⟨.hbm, 274, rfl⟩
abbrev main_c : Ref sig .tc := ⟨.hbm, 275, rfl⟩
abbrev main_call1_cst : Ref sig .tc := ⟨.hbm, 276, rfl⟩
abbrev main_call1_v0 : Ref sig .tc := ⟨.hbm, 277, rfl⟩
abbrev main_call1_v1 : Ref sig .tc := ⟨.hbm, 278, rfl⟩
abbrev main_call1_cst_0 : Ref sig .tc := ⟨.hbm, 279, rfl⟩
abbrev main_call1_v2 : Ref sig .tc := ⟨.hbm, 280, rfl⟩
abbrev main_call1_v3 : Ref sig .tc := ⟨.hbm, 281, rfl⟩
abbrev main_call1_v4 : Ref sig .tc := ⟨.hbm, 282, rfl⟩
abbrev main_call1_v5 : Ref sig .tc := ⟨.hbm, 283, rfl⟩
abbrev main_call1_v6 : Ref sig .tc := ⟨.hbm, 284, rfl⟩
abbrev main_call1_v7 : Ref sig .tc := ⟨.hbm, 285, rfl⟩
abbrev main_call1_cst_1 : Ref sig .tc := ⟨.hbm, 286, rfl⟩
abbrev main_call1_v8 : Ref sig .tc := ⟨.hbm, 287, rfl⟩
abbrev main_call1_cst_2 : Ref sig .tc := ⟨.hbm, 288, rfl⟩
abbrev main_call1_v9 : Ref sig .tc := ⟨.hbm, 289, rfl⟩
abbrev main_call1_v10 : Ref sig .tc := ⟨.hbm, 290, rfl⟩
abbrev main_call1_v11 : Ref sig .tc := ⟨.hbm, 291, rfl⟩
abbrev main_call1_v12 : Ref sig .tc := ⟨.hbm, 292, rfl⟩
abbrev main_call1_cst_3 : Ref sig .tc := ⟨.hbm, 293, rfl⟩
abbrev main_call1_v13 : Ref sig .tc := ⟨.hbm, 294, rfl⟩
abbrev main_call1_cst_4 : Ref sig .tc := ⟨.hbm, 295, rfl⟩
abbrev main_call1_call0_v0 : Ref sig .tc := ⟨.hbm, 296, rfl⟩
abbrev main_call1_call0_v1 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_cst_13 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩

abbrev nD : Nat := 1
abbrev τ : Topo := Topo.v7x

variable {F : FTy → Type} [FloatOps F]
-- ==== Proof.Spec.lean ====
/- The mathematics of the block: what one batch entry computes, over the extended reals and with no tensors in it. Both
   programs are read off against these functions. -/
module

public import Idealize.ShloMosaic.Lib.Pointwise

@[expose] public section

noncomputable section

namespace Cert.Spec

open Idealize.ShloMosaic

/-- A matrix over the extended reals. -/
abbrev Mat (p q : ℕ) := Fin p → Fin q → EReal

/-- The parameters of the block, every weight matrix with its input dimension first. -/
structure Par where
  /-- the temporal layer's weights -/
  wfc : Mat 192 192
  /-- the graph convolution's weights -/
  wg : Mat 192 64
  /-- its bias -/
  bg : Fin 64 → EReal
  /-- the backcast's weights -/
  wbc : Mat 64 64
  /-- its bias -/
  bbc : Fin 64 → EReal
  /-- the forecast's weights -/
  wfk : Mat 64 256
  /-- its bias -/
  bfk : Fin 256 → EReal
  /-- the normalisation's scale -/
  lns : Fin 64 → EReal
  /-- its shift -/
  lnb : Fin 64 → EReal

/-- Three matrices side by side. -/
def cat3 (a b c : Mat 512 64) : Mat 512 192 := fun n k =>
  if h : (k : ℕ) < 64 then a n ⟨k, h⟩
  else if h' : (k : ℕ) - 64 < 64 then b n ⟨(k : ℕ) - 64, h'⟩
  else c n ⟨(k : ℕ) - 64 - 64, by have := k.isLt; omega⟩

/-- The hyperbolic tangent of the temporal layer over a window of three frames. -/
def act (w : Mat 192 192) (a b c : Mat 512 64) : Mat 512 192 := fun n o =>
  Ideal.tanh (∑ k : Fin 192, cat3 a b c n k * w k o)

/-- The mean of the window's three positions. -/
def mean3 (t : Mat 512 192) : Mat 512 64 := fun n d =>
  (t n ⟨d, by have := d.isLt; omega⟩ + t n ⟨64 + (d : ℕ), by have := d.isLt; omega⟩
    + t n ⟨128 + (d : ℕ), by have := d.isLt; omega⟩) * ((1 / 3 : ℝ) : EReal)

/-- The window's three positions one under another: row `m` is node `m % 512` at position `m / 512`. -/
def stk (t : Mat 512 192) : Mat 1536 64 := fun m d =>
  t ⟨(m : ℕ) % 512, Nat.mod_lt _ (by decide)⟩ ⟨(m : ℕ) / 512 * 64 + d, by have := m.isLt; have := d.isLt; omega⟩

/-- A graph applied to the stacked window. -/
def agg (g : Mat 512 1536) (t : Mat 512 192) : Mat 512 64 := fun n d => ∑ m : Fin 1536, g n m * stk t m d

/-- The graph convolution of one activated window. -/
def conv (p : Par) (g0 g1 : Mat 512 1536) (t : Mat 512 192) : Mat 512 64 := fun n o =>
  ∑ k : Fin 192, cat3 (mean3 t) (agg g0 t) (agg g1 t) n k * p.wg k o + p.bg o

/-- The hidden state a window of three frames gives. -/
def step (p : Par) (g0 g1 : Mat 512 1536) (a b c : Mat 512 64) : Mat 512 64 := conv p g0 g1 (act p.wfc a b c)

/-- The window of the sequence `s` that starts at `l`, activated. -/
def tw (w : Mat 192 192) (s : ℕ → Mat 512 64) (l : ℕ) : Mat 512 192 := act w (s l) (s (l + 1)) (s (l + 2))

/-- The hidden state of the window that starts at `l`. -/
def hid (p : Par) (g0 g1 : Mat 512 1536) (s : ℕ → Mat 512 64) (l : ℕ) : Mat 512 64 := conv p g0 g1 (tw p.wfc s l)

/-- The sequence rolled out: its last two frames, the last hidden state, then each frame from the three before it. -/
def roll (p : Par) (g0 g1 : Mat 512 1536) (s : ℕ → Mat 512 64) : ℕ → Mat 512 64
  | 0 => s 10
  | 1 => s 11
  | 2 => hid p g0 g1 s 9
  | k + 3 => step p g0 g1 (roll p g0 g1 s k) (roll p g0 g1 s (k + 1)) (roll p g0 g1 s (k + 2))

/-- The forecast's frame `k`: the rolled-out frame `k + 2`, projected. -/
def fore (p : Par) (g0 g1 : Mat 512 1536) (s : ℕ → Mat 512 64) (k : ℕ) : Mat 512 256 := fun n o =>
  ∑ d : Fin 64, roll p g0 g1 s (k + 2) n d * p.wfk d o + p.bfk o

/-- What the backcast leaves of a frame. -/
def resid (p : Par) (z x : Mat 512 64) : Mat 512 64 := fun n d =>
  x n d - max (∑ k : Fin 64, z n k * p.wbc k d + p.bbc d) 0

/-- The mean of a row. -/
def mu (v : Mat 512 64) (n : Fin 512) : EReal := Ideal.div (∑ d : Fin 64, v n d) ((64 : ℝ) : EReal)

/-- The variance of a row. -/
def var (v : Mat 512 64) (n : Fin 512) : EReal :=
  Ideal.div (∑ d : Fin 64, (v n d - mu v n) * (v n d - mu v n)) ((64 : ℝ) : EReal)

/-- The row normalisation, `e` being added to the variance. -/
def norm (p : Par) (e : EReal) (v : Mat 512 64) : Mat 512 64 := fun n d =>
  Ideal.div (v n d - mu v n) (Ideal.sqrt (var v n + e)) * p.lns d + p.lnb d

/-- The residual output at position `l`. -/
def out (p : Par) (e : EReal) (g0 g1 : Mat 512 1536) (s x : ℕ → Mat 512 64) (l : ℕ) : Mat 512 64 :=
  norm p e (resid p (hid p g0 g1 s l) (x (l + 2)))

/-! ## The whole call -/

/-- The arguments of a call: the two inputs and the graphs, batch by batch, and the parameters. -/
structure Args where
  /-- the input the backcast is taken from -/
  x : Fin 8 → Fin 12 → Fin 512 → Fin 64 → EReal
  /-- the spatial input -/
  xs : Fin 8 → Fin 12 → Fin 512 → Fin 64 → EReal
  /-- the two graphs -/
  dyn : Fin 2 → Fin 8 → Fin 512 → Fin 1536 → EReal
  /-- the parameters -/
  p : Par

/-- Twelve frames as a sequence. -/
def seq (f : Fin 12 → Fin 512 → Fin 64 → EReal) (l : ℕ) : Mat 512 64 := fun n d =>
  if h : l < 12 then f ⟨l, h⟩ n d else 0

/-- The hidden state of batch entry `b` at position `l`. -/
def Args.hidden (A : Args) (b : Fin 8) (l : ℕ) : Mat 512 64 :=
  hid A.p (A.dyn 0 b) (A.dyn 1 b) (seq (A.xs b)) l

/-- The rolled-out sequence of batch entry `b`. -/
def Args.rolled (A : Args) (b : Fin 8) (k : ℕ) : Mat 512 64 :=
  roll A.p (A.dyn 0 b) (A.dyn 1 b) (seq (A.xs b)) k

/-- The residual output of batch entry `b` at position `l`. -/
def Args.residual (A : Args) (e : EReal) (b : Fin 8) (l : ℕ) : Mat 512 64 :=
  out A.p e (A.dyn 0 b) (A.dyn 1 b) (seq (A.xs b)) (seq (A.x b)) l

/-- The forecast of batch entry `b` at frame `k`. -/
def Args.forecast (A : Args) (b : Fin 8) (k : ℕ) : Mat 512 256 :=
  fore A.p (A.dyn 0 b) (A.dyn 1 b) (seq (A.xs b)) k

/-! ## Facts -/

/-- A frame rolled out, from the three before it. -/
theorem roll_step (p : Par) (g0 g1 : Mat 512 1536) (s : ℕ → Mat 512 64) (k : ℕ) :
    roll p g0 g1 s (k + 3) = step p g0 g1 (roll p g0 g1 s k) (roll p g0 g1 s (k + 1)) (roll p g0 g1 s (k + 2)) := rfl

/-- The six predicted frames, picked one by one. -/
theorem pick_eq {q : ℕ} (f : ℕ → Mat 512 q) (k : Fin 6) (n : Fin 512) (d : Fin q) :
    (if _ : (k : ℕ) < 1 then f 2 n d else if _ : (k : ℕ) - 1 < 1 then f 3 n d else if _ : (k : ℕ) - 1 - 1 < 1 then f 4 n d
      else if _ : (k : ℕ) - 1 - 1 - 1 < 1 then f 5 n d else if _ : (k : ℕ) - 1 - 1 - 1 - 1 < 1 then f 6 n d else f 7 n d)
      = f (k + 2) n d := by
  fin_cases k <;> rfl

/-- A frame of a sequence of twelve. -/
theorem seq_eq (f : Fin 12 → Fin 512 → Fin 64 → EReal) (l : ℕ) (h : l < 12) (n : Fin 512) (d : Fin 64) :
    seq f l n d = f ⟨l, h⟩ n d := by
  unfold seq
  rw [dif_pos h]

/-- Column `k` of three matrices side by side is column `k % 64` of matrix `k / 64`. -/
theorem cat3_div (a b c : Mat 512 64) (n : Fin 512) (k : Fin 192) :
    cat3 a b c n k = if _ : (k : ℕ) / 64 < 1 then a n ⟨(k : ℕ) % 64, Nat.mod_lt _ (by decide)⟩
      else if _ : (k : ℕ) / 64 - 1 < 1 then b n ⟨(k : ℕ) % 64, Nat.mod_lt _ (by decide)⟩
      else c n ⟨(k : ℕ) % 64, Nat.mod_lt _ (by decide)⟩ := by
  have := k.isLt
  unfold cat3
  split_ifs <;> first | omega | (congr 1; apply Fin.ext; simp only; omega)

/-- The stacked window read position by position. -/
theorem stk_eq (t : Mat 512 192) (m : Fin 1536) (d : Fin 64) :
    (if h : (m : ℕ) < 512 then t ⟨m, h⟩ ⟨d, by have := d.isLt; omega⟩
      else if h' : (m : ℕ) - 512 < 512 then t ⟨(m : ℕ) - 512, h'⟩ ⟨64 + (d : ℕ), by have := d.isLt; omega⟩
      else t ⟨(m : ℕ) - 512 - 512, by have := m.isLt; omega⟩ ⟨128 + (d : ℕ), by have := d.isLt; omega⟩) = stk t m d := by
  have hm := m.isLt
  have hd := d.isLt
  unfold stk
  split
  · congr 1 <;> simp only [Fin.mk.injEq] <;> omega
  · split
    · congr 1 <;> simp only [Fin.mk.injEq] <;> omega
    · congr 1 <;> simp only [Fin.mk.injEq] <;> omega

/-- An entry of a sequence of matrices depends on the numbers of its place. -/
theorem seq_congr {q : ℕ} (f : ℕ → Mat 512 q) {k k' : ℕ} {n n' : Fin 512} {d d' : Fin q} (hk : k = k')
    (hn : (n : ℕ) = n') (hd : (d : ℕ) = d') : f k n d = f k' n' d' := by
  rw [hk, Fin.ext hn, Fin.ext hd]

/-- Six frames one under another, read row by row. -/
theorem six_eq (f : ℕ → Mat 512 64) (k : Fin 6) (n : Fin 512) (d : Fin 64) :
    (if h : (k : ℕ) * 512 + n < 512 then f 2 ⟨(k : ℕ) * 512 + n, h⟩ d
      else if h : (k : ℕ) * 512 + n - 512 < 512 then f 3 ⟨(k : ℕ) * 512 + n - 512, h⟩ d
      else if h : (k : ℕ) * 512 + n - 512 - 512 < 512 then f 4 ⟨(k : ℕ) * 512 + n - 512 - 512, h⟩ d
      else if h : (k : ℕ) * 512 + n - 512 - 512 - 512 < 512 then f 5 ⟨(k : ℕ) * 512 + n - 512 - 512 - 512, h⟩ d
      else if h : (k : ℕ) * 512 + n - 512 - 512 - 512 - 512 < 512 then
        f 6 ⟨(k : ℕ) * 512 + n - 512 - 512 - 512 - 512, h⟩ d
      else f 7 ⟨(k : ℕ) * 512 + n - 512 - 512 - 512 - 512 - 512, by have := k.isLt; have := n.isLt; omega⟩ d)
      = f (k + 2) n d := by
  have hk := k.isLt
  have hn := n.isLt
  split_ifs <;> refine seq_congr f ?_ ?_ rfl <;> (try dsimp only) <;> omega

/-- A square of an extended real is nonnegative. -/
theorem sq_nonneg (z : EReal) : 0 ≤ z * z := by
  rcases le_total 0 z with h | h
  · exact mul_nonneg h h
  · have := mul_nonneg (EReal.neg_nonneg.2 h) (EReal.neg_nonneg.2 h)
    rwa [neg_mul_neg] at this

/-- So a variance is. -/
theorem var_nonneg (v : Mat 512 64) (n : Fin 512) : 0 ≤ var v n := by
  unfold var
  rw [Ideal.div_coe (by norm_num)]
  exact mul_nonneg (Finset.sum_nonneg fun d _ => sq_nonneg _) (by exact_mod_cast (by norm_num : (0 : ℝ) ≤ 1 / 64))

/-- Above zero, dividing by a square root is multiplying by its reciprocal. -/
theorem mul_rsqrt (x y : EReal) (h : 0 < y) : x * Ideal.rsqrt y = Ideal.div x (Ideal.sqrt y) := by
  induction y using EReal.rec with
  | bot => exact absurd h (by simp)
  | top =>
    rw [Ideal.rsqrt_top, show Ideal.sqrt ⊤ = ⊤ from rfl, Ideal.div, if_neg (by simp), EReal.inv_top]
  | coe r =>
    have hr : 0 < r := by exact_mod_cast h
    rw [Ideal.rsqrt_coe, Ideal.sqrt_coe]
    simp only [not_lt.2 hr.le, hr.ne', ↓reduceIte]
    rw [Ideal.div_coe (Real.sqrt_pos.2 hr).ne', one_div]

/-- The normalisation by a reciprocal square root is the normalisation. -/
theorem norm_eq (p : Par) (e : EReal) (he : 0 < e) (v : Mat 512 64) (n : Fin 512) (d : Fin 64) :
    (v n d - mu v n) * Ideal.rsqrt (var v n + e) * p.lns d + p.lnb d = norm p e v n d := by
  unfold norm
  rw [mul_rsqrt _ _ (lt_of_lt_of_le he (le_add_of_nonneg_left (var_nonneg v n)))]

end Cert.Spec

end
-- ==== Proof.Consts.lean ====
/- The floating-point constants of the two programs, as the reals they denote. -/
module

public import Idealize.ShloMosaic.Lib.Pointwise

@[expose] public section

noncomputable section

namespace Cert.Consts

open Idealize.ShloMosaic

/-- The constant three. -/
theorem three : Ideal.ofBits .f32 0x40400000#32 = ((3 : ℝ) : EReal) := by
  simp [Ideal.ofBits, Ideal.ieee, -EReal.coe_mul]; norm_num

/-- The constant sixty-four. -/
theorem sixtyfour : Ideal.ofBits .f32 0x42800000#32 = ((64 : ℝ) : EReal) := by
  simp [Ideal.ofBits, Ideal.ieee, -EReal.coe_mul]; norm_num

/-- What is added to a variance. -/
def eps : EReal := Ideal.ofBits .f32 0x3727C5AC#32

/-- It is above zero. -/
theorem eps_pos : 0 < eps := by
  unfold eps
  simp [Ideal.ofBits, Ideal.ieee, -EReal.coe_mul]

end Cert.Consts

end
-- ==== Proof.Stage.lean ====
/- The stages one block goes through, as tensors, and what each computes in the terms of the block's mathematics. The
   program's stores are compositions of these stages. -/
module

public import proofs.«01_k».proof.Proof.Gen.KernelIdeal.Value
public import proofs.«01_k».proof.Proof.Spec
public import proofs.«01_k».proof.Proof.Consts
public import Idealize.ShloMosaic.Lib.Pointwise
public import Idealize.ShloMosaic.Lib.Pipeline.ValueKit

@[expose] public section

set_option maxRecDepth 16384

noncomputable section

namespace Cert.KernelIdeal.Stage

open Cert.KernelIdeal Cert.KernelIdeal.Gen Cert.Spec Idealize.ShloMosaic Idealize.ShloMosaic.TcCoe Idealize.SL.Sem

/-- The named constant is one third. -/
theorem third : Named.named (F := Ideal) (φ := .f32) κ "third" 0x3EAAAAAB#32 = ((1 / 3 : ℝ) : EReal) :=
  IdealRules.named_const.ideal_named_scalar _ _ _ _ rfl

/-! ## The temporal layer -/

/-- Three frames through the temporal layer and its activation. -/
def actK (W : FVec Ideal S192x192 .f32) (a b c : FVec Ideal S512x64 .f32) : FVec Ideal S512x192 .f32 :=
  tanh (matmul dot_S512x192_S192x192_S512x192_1_0_0_1_n_n none
    (concatenate S512x192 1 [⟨S512x64, a⟩, ⟨S512x64, b⟩, ⟨S512x64, c⟩]
      concatenates_S512x64_S512x64_S512x64_S512x192_d1) W (constant S512x192 .f32 0x00000000#32))

/-- It is the activated window. -/
theorem actK_at {W : FVec Ideal S192x192 .f32} {a b c : FVec Ideal S512x64 .f32} {w : Mat 192 192} {A B C : Mat 512 64}
    (hW : ∀ k o, W (ix2 k o) = w k o) (ha : ∀ n d, a (ix2 n d) = A n d) (hb : ∀ n d, b (ix2 n d) = B n d)
    (hc : ∀ n d, c (ix2 n d) = C n d) (n : Fin 512) (o : Fin 192) : actK W a b c (ix2 n o) = act w A B C n o := by
  pointwise [actK]
  simp only [hW, ha, hb, hc]
  rfl

/-- The mean of the three positions of an activated window. -/
def meanK (T : FVec Ideal S512x192 .f32) : FVec Ideal S512x64 .f32 :=
  mulf (addf (addf (extractStridedSlice S512x64 ![0, 0] T slices_S512x192_o0_0_S512x64)
    (extractStridedSlice S512x64 ![0, 64] T slices_S512x192_o0_64_S512x64))
    (extractStridedSlice S512x64 ![0, 128] T slices_S512x192_o0_128_S512x64))
    (broadcast S512x64 (Named.named κ "third" 0x3EAAAAAB#32))

/-- It is the mean. -/
theorem meanK_at {T : FVec Ideal S512x192 .f32} {t : Mat 512 192} (hT : ∀ n o, T (ix2 n o) = t n o)
    (n : Fin 512) (d : Fin 64) : meanK T (ix2 n d) = mean3 t n d := by
  pointwise [meanK]
  simp only [hT, third]
  rfl

/-! ## The graph convolution -/

/-- The two graphs, one under the other, over a stacked window. -/
def mixK (D : FVec Ideal S1024x1536 .f32) (T : FVec Ideal S512x192 .f32) : FVec Ideal S1024x64 .f32 :=
  matmul dot_S1024x1536_S1536x64_S1024x64_1_0_0_1_n_n none D
    (concatenate S1536x64 0 [⟨S512x64, extractStridedSlice S512x64 ![0, 0] T slices_S512x192_o0_0_S512x64⟩,
      ⟨S512x64, extractStridedSlice S512x64 ![0, 64] T slices_S512x192_o0_64_S512x64⟩,
      ⟨S512x64, extractStridedSlice S512x64 ![0, 128] T slices_S512x192_o0_128_S512x64⟩]
      concatenates_S512x64_S512x64_S512x64_S1536x64_d0) (constant S1024x64 .f32 0x00000000#32)

/-- Each of its rows is a row of a graph summed against the stacked window. -/
theorem mixK_at {D : FVec Ideal S1024x1536 .f32} {T : FVec Ideal S512x192 .f32} {t : Mat 512 192}
    (hT : ∀ n o, T (ix2 n o) = t n o) (n : Fin 1024) (d : Fin 64) :
    mixK D T (ix2 n d) = ∑ m : Fin 1536, D (ix2 n m) * stk t m d := by
  pointwise [mixK]
  refine Finset.sum_congr rfl fun m _ => ?_
  rw [← stk_eq]
  simp only [hT]

/-- A linear layer over three matrices side by side. -/
def linK (Wg : FVec Ideal S192x64 .f32) (bg : FVec Ideal S1x64 .f32) (a b c : FVec Ideal S512x64 .f32) :
    FVec Ideal S512x64 .f32 :=
  addf (matmul dot_S512x192_S192x64_S512x64_1_0_0_1_n_n none
    (concatenate S512x192 1 [⟨S512x64, a⟩, ⟨S512x64, b⟩, ⟨S512x64, c⟩]
      concatenates_S512x64_S512x64_S512x64_S512x192_d1) Wg (constant S512x64 .f32 0x00000000#32))
    (broadcastTo S512x64 bg broadcasts_S1x64_S512x64)

/-- Fed with a window's mean and its two aggregates it is the graph convolution. -/
theorem linK_at {Wg : FVec Ideal S192x64 .f32} {bg : FVec Ideal S1x64 .f32} {a b c : FVec Ideal S512x64 .f32} {p : Par}
    {g0 g1 : Mat 512 1536} {t : Mat 512 192}
    (hW : ∀ k o, Wg (ix2 k o) = p.wg k o) (hb : ∀ o, bg (ix2 0 o) = p.bg o) (h0 : ∀ n d, a (ix2 n d) = mean3 t n d)
    (h1 : ∀ n d, b (ix2 n d) = agg g0 t n d) (h2 : ∀ n d, c (ix2 n d) = agg g1 t n d) (n : Fin 512) (o : Fin 64) :
    linK Wg bg a b c (ix2 n o) = conv p g0 g1 t n o := by
  pointwise [linK]
  simp only [hW, hb, h0, h1, h2]
  rfl

/-- One rollout step, from the three frames before it. -/
def stepK (W : FVec Ideal S192x192 .f32) (Wg : FVec Ideal S192x64 .f32) (bg : FVec Ideal S1x64 .f32)
    (D : FVec Ideal S1024x1536 .f32) (a b c : FVec Ideal S512x64 .f32) : FVec Ideal S512x64 .f32 :=
  linK Wg bg (meanK (actK W a b c))
    (extractStridedSlice S512x64 ![0, 0] (mixK D (actK W a b c)) slices_S1024x64_o0_0_S512x64)
    (extractStridedSlice S512x64 ![512, 0] (mixK D (actK W a b c)) slices_S1024x64_o512_0_S512x64)

/-- It is the hidden state of the window of the three. -/
theorem stepK_at {W : FVec Ideal S192x192 .f32} {Wg : FVec Ideal S192x64 .f32} {bg : FVec Ideal S1x64 .f32}
    {D : FVec Ideal S1024x1536 .f32} {a b c : FVec Ideal S512x64 .f32} {p : Par} {g0 g1 : Mat 512 1536} {A B C : Mat 512 64}
    (hW : ∀ k o, W (ix2 k o) = p.wfc k o) (hG : ∀ k o, Wg (ix2 k o) = p.wg k o) (hb : ∀ o, bg (ix2 0 o) = p.bg o)
    (h0 : ∀ (n : Fin 512) m, D (ix2 ⟨n, by have := n.isLt; omega⟩ m) = g0 n m)
    (h1 : ∀ (n : Fin 512) m, D (ix2 ⟨512 + (n : ℕ), by have := n.isLt; omega⟩ m) = g1 n m)
    (ha : ∀ n d, a (ix2 n d) = A n d) (hb' : ∀ n d, b (ix2 n d) = B n d) (hc : ∀ n d, c (ix2 n d) = C n d)
    (n : Fin 512) (o : Fin 64) : stepK W Wg bg D a b c (ix2 n o) = step p g0 g1 A B C n o := by
  have hT := actK_at hW ha hb' hc
  refine linK_at hG hb (meanK_at hT) (fun n d => ?_) (fun n d => ?_) n o
  · pointwise
    rw [mixK_at hT]
    simp only [h0]
    rfl
  · pointwise
    rw [mixK_at hT]
    simp only [h1]
    rfl

/-! ## The residual output -/

/-- What the backcast leaves of a frame. -/
def resK (Wb : FVec Ideal S64x64 .f32) (bb : FVec Ideal S1x64 .f32) (z x : FVec Ideal S512x64 .f32) :
    FVec Ideal S512x64 .f32 :=
  subf x (maximumf (addf (matmul dot_S512x64_S64x64_S512x64_1_0_0_1_n_n none z Wb (constant S512x64 .f32 0x00000000#32))
    (broadcastTo S512x64 bb broadcasts_S1x64_S512x64)) (broadcast S512x64 (Scalar.ofBits .f32 0x00000000#32)))

/-- It is the residual. -/
theorem resK_at {Wb : FVec Ideal S64x64 .f32} {bb : FVec Ideal S1x64 .f32} {z x : FVec Ideal S512x64 .f32} {p : Par}
    {Z X : Mat 512 64} (hW : ∀ k o, Wb (ix2 k o) = p.wbc k o) (hb : ∀ o, bb (ix2 0 o) = p.bbc o)
    (hz : ∀ n d, z (ix2 n d) = Z n d) (hx : ∀ n d, x (ix2 n d) = X n d) (n : Fin 512) (d : Fin 64) :
    resK Wb bb z x (ix2 n d) = resid p Z X n d := by
  pointwise [resK]
  simp only [hW, hb, hz, hx]
  rfl

/-- The mean of every row. -/
def muK (v : FVec Ideal S512x64 .f32) : FVec Ideal S512x1 .f32 :=
  divf (shapeCast S512x1 (multiReduction .add [1] S512 v 0x00000000#32 reduces_S512x64_S512 (.inl rfl) rfl)
    shapeCasts_S512_S512x1) (broadcast S512x1 (Scalar.ofBits .f32 0x42800000#32))

/-- The rows less their mean. -/
def cenK (v : FVec Ideal S512x64 .f32) : FVec Ideal S512x64 .f32 :=
  subf v (broadcastTo S512x64 (muK v) broadcasts_S512x1_S512x64)

/-- The row normalisation, cast to a block of the output. -/
def normK (ls lb : FVec Ideal S1x64 .f32) (v : FVec Ideal S512x64 .f32) : FVec Ideal S1x1x512x64 .f32 :=
  shapeCast S1x1x512x64 (addf (mulf (mulf (cenK v) (broadcastTo S512x64
    (rsqrt (addf (muK (mulf (cenK v) (cenK v))) (broadcast S512x1 (Scalar.ofBits .f32 0x3727C5AC#32))))
    broadcasts_S512x1_S512x64)) (broadcastTo S512x64 ls broadcasts_S1x64_S512x64))
    (broadcastTo S512x64 lb broadcasts_S1x64_S512x64)) shapeCasts_S512x64_S1x1x512x64

/-- The mean of a row. -/
theorem muK_at {v : FVec Ideal S512x64 .f32} {V : Mat 512 64} (hv : ∀ n d, v (ix2 n d) = V n d) (n : Fin 512) (z : Fin 1) :
    muK v (ix2 n z) = mu V n := by
  pointwise [muK]
  simp only [hv, Consts.sixtyfour]
  rfl

/-- A row less its mean. -/
theorem cenK_at {v : FVec Ideal S512x64 .f32} {V : Mat 512 64} (hv : ∀ n d, v (ix2 n d) = V n d) (n : Fin 512)
    (d : Fin 64) : cenK v (ix2 n d) = V n d - mu V n := by
  pointwise [cenK]
  rw [hv, muK_at hv]

/-- The normalised row. -/
theorem normK_at {ls lb : FVec Ideal S1x64 .f32} {v : FVec Ideal S512x64 .f32} {p : Par} {V : Mat 512 64}
    (hs : ∀ d, ls (ix2 0 d) = p.lns d) (hl : ∀ d, lb (ix2 0 d) = p.lnb d) (hv : ∀ n d, v (ix2 n d) = V n d)
    (x : S1x1x512x64.Idx) : normK ls lb v x = norm p Consts.eps V (x 2) (x 3) := by
  idx_vars x
  rw [← norm_eq p _ Consts.eps_pos]
  have hq : ∀ n d, mulf (cenK v) (cenK v) (ix2 n d) = (V n d - mu V n) * (V n d - mu V n) := fun n d => by
    pointwise
    rw [cenK_at hv]
  pointwise [normK]
  rw [cenK_at hv, muK_at hq]
  simp only [hs, hl]
  rfl

/-! ## The forecast -/

/-- Six frames projected, cast to a block of the output. -/
def foreK (Wf : FVec Ideal S64x256 .f32) (bf : FVec Ideal S1x256 .f32) (f0 f1 f2 f3 f4 f5 : FVec Ideal S512x64 .f32) :
    FVec Ideal S1x6x512x256 .f32 :=
  shapeCast S1x6x512x256 (shapeCast S6x512x256 (addf (matmul dot_S3072x64_S64x256_S3072x256_1_0_0_1_n_n none
    (concatenate S3072x64 0 [⟨S512x64, f0⟩, ⟨S512x64, f1⟩, ⟨S512x64, f2⟩, ⟨S512x64, f3⟩, ⟨S512x64, f4⟩, ⟨S512x64, f5⟩]
      concatenates_S512x64_S512x64_S512x64_S512x64_S512x64_S512x64_S3072x64_d0) Wf (constant S3072x256 .f32 0x00000000#32))
    (broadcastTo S3072x256 bf broadcasts_S1x256_S3072x256)) shapeCasts_S3072x256_S6x512x256)
    shapeCasts_S6x512x256_S1x6x512x256

/-- It is the forecast, when the six frames are the rolled-out ones. -/
theorem foreK_at {Wf : FVec Ideal S64x256 .f32} {bf : FVec Ideal S1x256 .f32} {f0 f1 f2 f3 f4 f5 : FVec Ideal S512x64 .f32}
    {p : Par} {g0 g1 : Mat 512 1536} {s : ℕ → Mat 512 64}
    (hW : ∀ k o, Wf (ix2 k o) = p.wfk k o) (hb : ∀ o, bf (ix2 0 o) = p.bfk o)
    (h0 : ∀ n d, f0 (ix2 n d) = roll p g0 g1 s 2 n d) (h1 : ∀ n d, f1 (ix2 n d) = roll p g0 g1 s 3 n d)
    (h2 : ∀ n d, f2 (ix2 n d) = roll p g0 g1 s 4 n d) (h3 : ∀ n d, f3 (ix2 n d) = roll p g0 g1 s 5 n d)
    (h4 : ∀ n d, f4 (ix2 n d) = roll p g0 g1 s 6 n d) (h5 : ∀ n d, f5 (ix2 n d) = roll p g0 g1 s 7 n d)
    (x : S1x6x512x256.Idx) : foreK Wf bf f0 f1 f2 f3 f4 f5 x = fore p g0 g1 s (x 1) (x 2) (x 3) := by
  idx_vars x
  pointwise [foreK]
  simp only [hW, hb, h0, h1, h2, h3, h4, h5]
  unfold fore
  simp only [six_eq (roll p g0 g1 s)]

end Cert.KernelIdeal.Stage

end
-- ==== Proof.Pieces.lean ====
/- The kinds of store one grid point makes, and the loads they are made from: a window's mean, a window's positions, a
   block of the residual output. Each is stated once, for every position `l` of the sequence. -/
module

public import proofs.«01_k».proof.Proof.Stage
public import Idealize.ShloMosaic.Lib.Pointwise
public import Idealize.ShloMosaic.Lib.Pipeline.ValueKit

@[expose] public section

set_option maxRecDepth 16384

noncomputable section

namespace Cert.KernelIdeal.Pieces

open Cert.KernelIdeal Cert.KernelIdeal.Gen Cert.KernelIdeal.Stage Cert.Spec Idealize.ShloMosaic Idealize.ShloMosaic.TcCoe
  Idealize.SL.Sem

/-- Frame `l` of a block of twelve frames. -/
def frm (X : FVec Ideal S1x12x512x64 .f32) : ℕ → Mat 512 64 := seq fun l n d => X (ix4 0 l n d)

/-- One graph of a block of two. -/
def gr (D : FVec Ideal S2x1x512x1536 .f32) (i : Fin 2) : Mat 512 1536 := fun n k => D (ix4 i 0 n k)

/-- A load of one frame of a block reads the frame. -/
theorem frm_ld (X : FVec Ideal S1x12x512x64 .f32) (l : ℕ)
    (inb : ∀ a, (![0, l, 0, 0] : Fin 4 → ℕ) a + (![1, 1, 512, 64] : Fin 4 → ℕ) a ≤ S1x12x512x64.size a)
    (n : Fin 512) (d : Fin 64) :
    shapeCast (s := S1x1x512x64) S512x64
      (View.ld (S := S1x12x512x64) (Val := Elt Ideal) (e' := .f32) X (Rect.unit ![0, l, 0, 0] ![1, 1, 512, 64] inb))
      shapeCasts_S1x1x512x64_S512x64 (ix2 n d) = frm X l n d := by
  have hl : l < 12 := by have := inb 1; simpa using this
  unfold frm seq
  rw [dif_pos hl]
  pointwise

/-- The two graphs one under the other: the first half of the rows is the first graph's, -/
theorem gr_low (D : FVec Ideal S2x1x512x1536 .f32) (n : Fin 512) (k : Fin 1536) :
    k0_pay11 (F := Ideal) D (ix2 ⟨n, by have := n.isLt; omega⟩ k) = gr D 0 n k := by
  have hn := n.isLt
  have h0 : (⟨(n : ℕ) / 512, by omega⟩ : Fin 2) = 0 := Fin.ext (Nat.div_eq_of_lt hn)
  have h1 : (⟨(n : ℕ) % 512, by omega⟩ : Fin 512) = n := Fin.ext (Nat.mod_eq_of_lt hn)
  pointwise [k0_pay11]
  rw [h0, h1]
  rfl

/-- the second half the second's. -/
theorem gr_high (D : FVec Ideal S2x1x512x1536 .f32) (n : Fin 512) (k : Fin 1536) :
    k0_pay11 (F := Ideal) D (ix2 ⟨512 + (n : ℕ), by have := n.isLt; omega⟩ k) = gr D 1 n k := by
  have hn := n.isLt
  have h0 : (⟨(512 + (n : ℕ)) / 512, by omega⟩ : Fin 2) = 1 := Fin.ext (by show _ = 1; dsimp only; omega)
  pointwise [k0_pay11]
  rw [h0]
  rfl

/-- The first half again, its rows counted from row zero. -/
theorem gr_low' (D : FVec Ideal S2x1x512x1536 .f32) (n : Fin 512) (k : Fin 1536) :
    k0_pay11 (F := Ideal) D (ix2 ⟨0 + (n : ℕ), by have := n.isLt; omega⟩ k) = gr D 0 n k := by
  simp only [Nat.zero_add]
  exact gr_low D n k

/-- A cast to the same shape changes nothing. -/
theorem cast_at {s : Shape} (x : FVec Ideal s .f32) (h : s.ShapeCasts s) (i : s.Idx) : shapeCast s x h i = x i :=
  congrFun (shapeCast_id x h) i

/-- The store of a window's mean. -/
theorem mean_piece {W : FVec Ideal S192x192 .f32} {a b c : FVec Ideal S512x64 .f32} {w : Mat 192 192} {s : ℕ → Mat 512 64}
    {l : ℕ} (hW : ∀ k o, W (ix2 k o) = w k o) (ha : ∀ n d, a (ix2 n d) = s l n d)
    (hb : ∀ n d, b (ix2 n d) = s (l + 1) n d) (hc : ∀ n d, c (ix2 n d) = s (l + 2) n d) (x : S1x512x64.Idx) :
    shapeCast S1x512x64 (meanK (actK W a b c)) shapeCasts_S512x64_S1x512x64 x = mean3 (tw w s l) (x 1) (x 2) := by
  idx_vars x
  pointwise
  exact meanK_at (actK_at hW ha hb hc) _ _

/-- The store of one position of a window. -/
theorem pos_piece {W : FVec Ideal S192x192 .f32} {a b c : FVec Ideal S512x64 .f32} {w : Mat 192 192} {s : ℕ → Mat 512 64}
    {l : ℕ} (o : ℕ) (ho : o + 64 ≤ 192) (hs : S512x192.Slices ![0, o] S512x64) (hW : ∀ k o, W (ix2 k o) = w k o) (ha : ∀ n d, a (ix2 n d) = s l n d)
    (hb : ∀ n d, b (ix2 n d) = s (l + 1) n d) (hc : ∀ n d, c (ix2 n d) = s (l + 2) n d) (x : S512x64.Idx) :
    shapeCast S512x64 (extractStridedSlice S512x64 ![0, o] (actK W a b c) hs) shapeCasts_S512x64_S512x64 x
      = tw w s l (x 0) ⟨o + (x 1 : ℕ), by have : (x 1 : ℕ) < 64 := (x 1).isLt; omega⟩ := by
  idx_vars x
  pointwise
  exact actK_at hW ha hb hc _ _

/-- A block of rows and columns of the graphs' product with the stacked windows is one graph's aggregate of one window. -/
theorem agg_slice {D : FVec Ideal S1024x1536 .f32} {K : FVec Ideal S1536x640 .f32} {g : Mat 512 1536} {t : Mat 512 192}
    (r o : ℕ) (hr : r + 512 ≤ 1024) (ho : o + 64 ≤ 640) (hs : S1024x640.Slices ![r, o] S512x64)
    (hD : ∀ (n : Fin 512) k, D (ix2 ⟨r + (n : ℕ), by have := n.isLt; omega⟩ k) = g n k)
    (hK : ∀ k (d : Fin 64), K (ix2 k ⟨o + (d : ℕ), by have := d.isLt; omega⟩) = stk t k d) (n : Fin 512) (d : Fin 64) :
    extractStridedSlice S512x64 ![r, o] (matmul dot_S1024x1536_S1536x640_S1024x640_1_0_0_1_n_n none D K
      (constant S1024x640 .f32 0x00000000#32)) hs (ix2 n d) = agg g t n d := by
  pointwise
  exact Finset.sum_congr rfl fun k _ => by rw [hD, hK]

/-- The store of a block of the residual output. -/
theorem out_piece {ls lb bb bg : FVec Ideal S1x64 .f32} {Wb : FVec Ideal S64x64 .f32} {Wg : FVec Ideal S192x64 .f32}
    {a b c x : FVec Ideal S512x64 .f32} {p : Par} {g0 g1 : Mat 512 1536} {s X : ℕ → Mat 512 64} {l : ℕ}
    (hs : ∀ d, ls (ix2 0 d) = p.lns d) (hl : ∀ d, lb (ix2 0 d) = p.lnb d)
    (hB : ∀ k o, Wb (ix2 k o) = p.wbc k o) (hb : ∀ o, bb (ix2 0 o) = p.bbc o)
    (hG : ∀ k o, Wg (ix2 k o) = p.wg k o) (hg : ∀ o, bg (ix2 0 o) = p.bg o)
    (hx : ∀ n d, x (ix2 n d) = X (l + 2) n d) (h0 : ∀ n d, a (ix2 n d) = mean3 (tw p.wfc s l) n d)
    (h1 : ∀ n d, b (ix2 n d) = agg g0 (tw p.wfc s l) n d) (h2 : ∀ n d, c (ix2 n d) = agg g1 (tw p.wfc s l) n d)
    (y : S1x1x512x64.Idx) :
    normK ls lb (resK Wb bb (linK Wg bg a b c) x) y = out p Consts.eps g0 g1 s X l (y 2) (y 3) :=
  normK_at hs hl (resK_at hB hb (linK_at hG hg h0 h1 h2) hx) y

/-! ## The rollout -/

section
variable (W : FVec Ideal S192x192 .f32) (Wg : FVec Ideal S192x64 .f32) (bg : FVec Ideal S1x64 .f32)
  (D : FVec Ideal S1024x1536 .f32) (a b z : FVec Ideal S512x64 .f32)

/-- The first frame rolled out after the frames `a`, `b` and `z`, -/
def roll1 : FVec Ideal S512x64 .f32 := stepK W Wg bg D a b z
/-- the second, -/
def roll2 : FVec Ideal S512x64 .f32 := stepK W Wg bg D b z (roll1 W Wg bg D a b z)
/-- the third, -/
def roll3 : FVec Ideal S512x64 .f32 := stepK W Wg bg D z (roll1 W Wg bg D a b z) (roll2 W Wg bg D a b z)
/-- the fourth -/
def roll4 : FVec Ideal S512x64 .f32 :=
  stepK W Wg bg D (roll1 W Wg bg D a b z) (roll2 W Wg bg D a b z) (roll3 W Wg bg D a b z)
/-- and the fifth. -/
def roll5 : FVec Ideal S512x64 .f32 :=
  stepK W Wg bg D (roll2 W Wg bg D a b z) (roll3 W Wg bg D a b z) (roll4 W Wg bg D a b z)
end

/-- The store of the forecast: the last hidden state and the five frames rolled out after it, projected. -/
theorem fore_piece {W : FVec Ideal S192x192 .f32} {Wg : FVec Ideal S192x64 .f32} {bg : FVec Ideal S1x64 .f32}
    {D : FVec Ideal S1024x1536 .f32} {a b z : FVec Ideal S512x64 .f32} {Wf : FVec Ideal S64x256 .f32}
    {bf : FVec Ideal S1x256 .f32} {p : Par} {g0 g1 : Mat 512 1536} {s : ℕ → Mat 512 64}
    (hF : ∀ k o, Wf (ix2 k o) = p.wfk k o) (hf : ∀ o, bf (ix2 0 o) = p.bfk o)
    (hW : ∀ k o, W (ix2 k o) = p.wfc k o) (hG : ∀ k o, Wg (ix2 k o) = p.wg k o) (hg : ∀ o, bg (ix2 0 o) = p.bg o)
    (h0 : ∀ (n : Fin 512) m, D (ix2 ⟨n, by have := n.isLt; omega⟩ m) = g0 n m)
    (h1 : ∀ (n : Fin 512) m, D (ix2 ⟨512 + (n : ℕ), by have := n.isLt; omega⟩ m) = g1 n m)
    (ha : ∀ n d, a (ix2 n d) = s 10 n d) (hb : ∀ n d, b (ix2 n d) = s 11 n d)
    (hz : ∀ n d, z (ix2 n d) = hid p g0 g1 s 9 n d) (x : S1x6x512x256.Idx) :
    foreK Wf bf z (roll1 W Wg bg D a b z) (roll2 W Wg bg D a b z) (roll3 W Wg bg D a b z) (roll4 W Wg bg D a b z)
      (roll5 W Wg bg D a b z) x = fore p g0 g1 s (x 1) (x 2) (x 3) := by
  have hz' : ∀ n d, z (ix2 n d) = roll p g0 g1 s 2 n d := hz
  have f1 : ∀ n d, roll1 W Wg bg D a b z (ix2 n d) = roll p g0 g1 s 3 n d := stepK_at hW hG hg h0 h1 ha hb hz'
  have f2 : ∀ n d, roll2 W Wg bg D a b z (ix2 n d) = roll p g0 g1 s 4 n d := stepK_at hW hG hg h0 h1 hb hz' f1
  have f3 : ∀ n d, roll3 W Wg bg D a b z (ix2 n d) = roll p g0 g1 s 5 n d := stepK_at hW hG hg h0 h1 hz' f1 f2
  have f4 : ∀ n d, roll4 W Wg bg D a b z (ix2 n d) = roll p g0 g1 s 6 n d := stepK_at hW hG hg h0 h1 f1 f2 f3
  have f5 : ∀ n d, roll5 W Wg bg D a b z (ix2 n d) = roll p g0 g1 s 7 n d := stepK_at hW hG hg h0 h1 f2 f3 f4
  exact foreK_at hF hf hz' f1 f2 f3 f4 f5 x

end Cert.KernelIdeal.Pieces

end
-- ==== Proof.Block.lean ====
/- What one grid point leaves in its two output blocks, from its twelve input blocks: the residual output at every
   position, and the forecast at every frame. -/
module

public import proofs.«01_k».proof.Proof.Pieces
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Cert.KernelIdeal.Stage Cert.KernelIdeal.Pieces Cert.Spec Idealize.ShloMosaic
  Idealize.ShloMosaic.TcCoe Idealize.SL.Sem

variable (m : (ℓ : Loc nD τ sig) → Buf (Elt Ideal) ℓ) (c : Dev nD) (t : Fin cfg0.N)

/-- A list of stores that agrees with `G` everywhere reads as `G`. -/
theorem canon_eq {s : Shape} (L : List (View.Piece (Elt Ideal) s .f32)) (G : s.Idx → EReal)
    (h : ∀ y, View.canon (Val := Elt Ideal) (e := .f32) L y = G y) :
    View.canon (Val := Elt Ideal) (e := .f32) L = G := funext h

/-- The parameters a grid point reads in its blocks. -/
def par : Par where
  wfc := fun k o => iblk m c 3 t (ix2 k o)
  wg := fun k o => iblk m c 4 t (ix2 k o)
  bg := fun o => iblk m c 5 t (ix2 0 o)
  wbc := fun k o => iblk m c 6 t (ix2 k o)
  bbc := fun o => iblk m c 7 t (ix2 0 o)
  wfk := fun k o => iblk m c 8 t (ix2 k o)
  bfk := fun o => iblk m c 9 t (ix2 0 o)
  lns := fun o => iblk m c 10 t (ix2 0 o)
  lnb := fun o => iblk m c 11 t (ix2 0 o)

/-- The frames of the spatial input. -/
def sp : ℕ → Mat 512 64 := frm (iblk m c 1 t)

/-- The frames of the input the backcast is taken from. -/
def xs : ℕ → Mat 512 64 := frm (iblk m c 0 t)

/-- What the scratch array of means holds once it is written. -/
def means : S10x512x64.Idx → EReal := fun y => mean3 (tw (par m c t).wfc (sp m c t) (y 0)) (y 1) (y 2)

/-- What the scratch array of stacked windows holds once it is written: the windows side by side. -/
def wins : S1536x640.Idx → EReal := fun y =>
  tw (par m c t).wfc (sp m c t) ((y 1 : ℕ) / 64) ⟨(y 0 : ℕ) % 512, Nat.mod_lt _ (by decide)⟩
    ⟨(y 0 : ℕ) / 512 * 64 + (y 1 : ℕ) % 64, by have : (y 0 : ℕ) < 1536 := (y 0).isLt; omega⟩

/-- A load of one row of the means is the mean of one window. -/
theorem means_ld (l : ℕ) (inb : ∀ a, (![l, 0, 0] : Fin 3 → ℕ) a + (![1, 512, 64] : Fin 3 → ℕ) a ≤ S10x512x64.size a)
    (n : Fin 512) (d : Fin 64) :
    shapeCast (s := S1x512x64) S512x64
      (fun j => means m c t ((Rect.unit (s := S10x512x64) ![l, 0, 0] ![1, 512, 64] inb).toLoadRect.idx j))
      shapeCasts_S1x512x64_S512x64 (ix2 n d) = mean3 (tw (par m c t).wfc (sp m c t) l) n d := by
  pointwise
  unfold means
  refine seq_congr (fun l => mean3 (tw (par m c t).wfc (sp m c t) l)) ?_ ?_ ?_ <;> simp

/-- A column of the windows side by side is a column of one stacked window. -/
theorem wins_ld (o l : ℕ) (ho : o = l * 64) (hl : l < 10)
    (inb : ∀ a, (![0, 0] : Fin 2 → ℕ) a + (![1536, 640] : Fin 2 → ℕ) a ≤ S1536x640.size a) (k : Fin 1536) (d : Fin 64) :
    (fun j => wins m c t ((Rect.unit (s := S1536x640) ![0, 0] ![1536, 640] inb).toLoadRect.idx j))
      (ix2 k ⟨o + (d : ℕ), by have := d.isLt; omega⟩) = stk (tw (par m c t).wfc (sp m c t) l) k d := by
  have hd := d.isLt
  refine seq_congr (tw (par m c t).wfc (sp m c t)) ?_ ?_ ?_ <;> simp <;> omega

/-- The normalisation's scale as the program reads it. -/
theorem hlns (d : Fin 64) : k0_pay9 (F := Ideal) (iblk m c 10 t) (ix2 0 d) = (par m c t).lns d :=
  cast_at (s := S1x64) (iblk m c 10 t) shapeCasts_S1x64_S1x64 _

/-- The normalisation's shift as the program reads it. -/
theorem hlnb (d : Fin 64) : k0_pay10 (F := Ideal) (iblk m c 11 t) (ix2 0 d) = (par m c t).lnb d :=
  cast_at (s := S1x64) (iblk m c 11 t) shapeCasts_S1x64_S1x64 _

/-- The backcast's weights as the program reads them. -/
theorem hwbc (k o : Fin 64) : k0_pay5 (F := Ideal) (iblk m c 6 t) (ix2 k o) = (par m c t).wbc k o :=
  cast_at (s := S64x64) (iblk m c 6 t) shapeCasts_S64x64_S64x64 _

/-- The backcast's bias as the program reads it. -/
theorem hbbc (o : Fin 64) : k0_pay6 (F := Ideal) (iblk m c 7 t) (ix2 0 o) = (par m c t).bbc o :=
  cast_at (s := S1x64) (iblk m c 7 t) shapeCasts_S1x64_S1x64 _

/-- The graph convolution's weights as the program reads them. -/
theorem hwg (k : Fin 192) (o : Fin 64) : k0_pay3 (F := Ideal) (iblk m c 4 t) (ix2 k o) = (par m c t).wg k o :=
  cast_at (s := S192x64) (iblk m c 4 t) shapeCasts_S192x64_S192x64 _

/-- The graph convolution's bias as the program reads it. -/
theorem hbg (o : Fin 64) : k0_pay4 (F := Ideal) (iblk m c 5 t) (ix2 0 o) = (par m c t).bg o :=
  cast_at (s := S1x64) (iblk m c 5 t) shapeCasts_S1x64_S1x64 _

/-- The temporal layer's weights as the program reads them. -/
theorem hwfc (k o : Fin 192) : k0_pay2 (F := Ideal) (iblk m c 3 t) (ix2 k o) = (par m c t).wfc k o :=
  cast_at (s := S192x192) (iblk m c 3 t) shapeCasts_S192x192_S192x192 _

/-- The forecast's weights as the program reads them. -/
theorem hwfk (k : Fin 64) (o : Fin 256) : k0_pay7 (F := Ideal) (iblk m c 8 t) (ix2 k o) = (par m c t).wfk k o :=
  cast_at (s := S64x256) (iblk m c 8 t) shapeCasts_S64x256_S64x256 _

/-- The forecast's bias as the program reads it. -/
theorem hbfk (o : Fin 256) : k0_pay8 (F := Ideal) (iblk m c 9 t) (ix2 0 o) = (par m c t).bfk o :=
  cast_at (s := S1x256) (iblk m c 9 t) shapeCasts_S1x256_S1x256 _

set_option maxHeartbeats 2000000 in
/-- What one grid point leaves: the residual output of every position in its first block, and the forecast of every frame
    in its second. -/
theorem point (y : S1x10x512x64.Idx) (z : S1x6x512x256.Idx) :
    (outsAt0 m c t).1 y = out (par m c t) Consts.eps (gr (iblk m c 2 t) 0) (gr (iblk m c 2 t) 1) (sp m c t) (xs m c t)
      (y 1) (y 2) (y 3)
    ∧ (outsAt0 m c t).2 z = fore (par m c t) (gr (iblk m c 2 t) 0) (gr (iblk m c 2 t) 1) (sp m c t)
      (z 1) (z 2) (z 3) := by
  unfold outsAt0
  frame_out
  simp only [View.readCov_eq_canon']
  rw [canon_eq _ (means m c t), canon_eq _ (wins m c t)]
  · constructor
    · canon_tiles x h
      all_goals
        refine (out_piece (p := par m c t) (s := sp m c t) (X := xs m c t) (hlns m c t) (hlnb m c t) (hwbc m c t)
          (hbbc m c t) (hwg m c t) (hbg m c t)
          (frm_ld _ _ _) (means_ld m c t _ _)
          (agg_slice _ _ (by decide) (by decide) _ (gr_low' _) (wins_ld m c t _ _ (by decide) (by decide) _))
          (agg_slice _ _ (by decide) (by decide) _ (gr_high _) (wins_ld m c t _ _ (by decide) (by decide) _)) x).trans ?_
        refine seq_congr (out (par m c t) Consts.eps (gr (iblk m c 2 t) 0) (gr (iblk m c 2 t) 1) (sp m c t) (xs m c t))
          ?_ ?_ ?_ <;> omega
    · exact fore_piece (p := par m c t) (s := sp m c t) (hwfk m c t) (hbfk m c t) (hwfc m c t) (hwg m c t) (hbg m c t)
          (gr_low _) (gr_high _) (frm_ld _ _ _) (frm_ld _ _ _) (linK_at (hwg m c t) (hbg m c t) (means_ld m c t _ _)
          (agg_slice _ _ (by decide) (by decide) _ (gr_low' _) (wins_ld m c t _ _ (by decide) (by decide) _))
          (agg_slice _ _ (by decide) (by decide) _ (gr_high _) (wins_ld m c t _ _ (by decide) (by decide) _))) z
  · intro y
    canon_tiles x h
    all_goals
      refine (pos_piece (s := sp m c t) (w := (par m c t).wfc) _ (by decide) _ (hwfc m c t)
        (frm_ld _ _ _) (frm_ld _ _ _) (frm_ld _ _ _) x).trans ?_
      refine seq_congr (tw (par m c t).wfc (sp m c t)) ?_ ?_ ?_ <;> (try dsimp only) <;> omega
  · intro y
    canon_tiles x h
    all_goals
      refine (mean_piece (s := sp m c t) (w := (par m c t).wfc) (hwfc m c t)
        (frm_ld _ _ _) (frm_ld _ _ _) (frm_ld _ _ _) x).trans ?_
      refine seq_congr (fun l => mean3 (tw (par m c t).wfc (sp m c t) l)) ?_ ?_ ?_ <;> omega

end Cert.KernelIdeal.Block

end
-- ==== Proof.Array.lean ====
/- What the two output arrays hold after the launch, in terms of the arguments. -/
module

public import proofs.«01_k».proof.Proof.Block
public import Idealize.ShloMosaic.Lib.Pointwise
public import Idealize.ShloMosaic.Lib.Pipeline.ValueKit

@[expose] public section

set_option maxRecDepth 16384

noncomputable section

namespace Cert.KernelIdeal.Array

open Cert.KernelIdeal Cert.KernelIdeal.Gen Cert.KernelIdeal.Block Cert.KernelIdeal.Pieces Cert.Spec Idealize.ShloMosaic
  Idealize.ShloMosaic.TcCoe Idealize.SL.Sem
open Idealize.ShloMosaic.Pipeline (Dat)

variable (m : (ℓ : Loc nD τ sig) → Buf (Elt Ideal) ℓ) (c : Dev nD)

/-- The call's arguments as the launch finds them. -/
def args : Args where
  x := fun b l n d => m ((c : Thread nD τ).loc main_arg0) (ix4 b l n d)
  xs := fun b l n d => m ((c : Thread nD τ).loc main_arg1) (ix4 b l n d)
  dyn := fun i b n k => m ((c : Thread nD τ).loc main_arg2) (ix4 i b n k)
  p :=
  { wfc := fun k o => m ((c : Thread nD τ).loc main_arg4) (ix2 o k)
    wg := fun k o => m ((c : Thread nD τ).loc main_arg5) (ix2 o k)
    bg := fun o => m ((c : Thread nD τ).loc main_arg6) (ix1 o)
    wbc := fun k o => m ((c : Thread nD τ).loc main_arg7) (ix2 o k)
    bbc := fun o => m ((c : Thread nD τ).loc main_arg8) (ix1 o)
    wfk := fun k o => m ((c : Thread nD τ).loc main_arg9) (ix2 o k)
    bfk := fun o => m ((c : Thread nD τ).loc main_arg10) (ix1 o)
    lns := fun o => m ((c : Thread nD τ).loc main_arg11) (ix1 o)
    lnb := fun o => m ((c : Thread nD τ).loc main_arg12) (ix1 o) }

/-- Where every window's block lies: the batch entry `t` of the batched arrays, the whole of the others. -/
theorem idx : ∀ t : Fin cfg0.N, win0_0.index t = ![t.val, 0, 0, 0] ∧ win0_1.index t = ![t.val, 0, 0, 0]
    ∧ win0_2.index t = ![0, t.val, 0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val, 0, 0, 0]
    ∧ win0_13.index t = ![t.val, 0, 0, 0] ∧ t.val < 8 :=
  (by decide +kernel : ∀ t : Fin grid0.N, _)

/-- The parameters a point reads are the call's. -/
theorem par_eq (t : Fin cfg0.N) : par m c t = (args m c).p := by
  have e3 : ∀ k o, iblk m c 3 t (ix2 k o) = m ((c : Thread nD τ).loc main_arg4) (ix2 o k) := fun k o => by
    blk_point [iblk, V, idx t]
  have e4 : ∀ k o, iblk m c 4 t (ix2 k o) = m ((c : Thread nD τ).loc main_arg5) (ix2 o k) := fun k o => by
    blk_point [iblk, V, idx t]
  have e5 : ∀ o, iblk m c 5 t (ix2 0 o) = m ((c : Thread nD τ).loc main_arg6) (ix1 o) := fun o => by
    blk_point [iblk, V, idx t]
  have e6 : ∀ k o, iblk m c 6 t (ix2 k o) = m ((c : Thread nD τ).loc main_arg7) (ix2 o k) := fun k o => by
    blk_point [iblk, V, idx t]
  have e7 : ∀ o, iblk m c 7 t (ix2 0 o) = m ((c : Thread nD τ).loc main_arg8) (ix1 o) := fun o => by
    blk_point [iblk, V, idx t]
  have e8 : ∀ k o, iblk m c 8 t (ix2 k o) = m ((c : Thread nD τ).loc main_arg9) (ix2 o k) := fun k o => by
    blk_point [iblk, V, idx t]
  have e9 : ∀ o, iblk m c 9 t (ix2 0 o) = m ((c : Thread nD τ).loc main_arg10) (ix1 o) := fun o => by
    blk_point [iblk, V, idx t]
  have e10 : ∀ o, iblk m c 10 t (ix2 0 o) = m ((c : Thread nD τ).loc main_arg11) (ix1 o) := fun o => by
    blk_point [iblk, V, idx t]
  have e11 : ∀ o, iblk m c 11 t (ix2 0 o) = m ((c : Thread nD τ).loc main_arg12) (ix1 o) := fun o => by
    blk_point [iblk, V, idx t]
  unfold par args
  simp only [e3, e4, e5, e6, e7, e8, e9, e10, e11]

/-- The graphs a point reads are its batch entry's. -/
theorem gr_eq (t : Fin cfg0.N) (i : Fin 2) : gr (iblk m c 2 t) i = (args m c).dyn i ⟨t, (idx t).2.2.2.2.2.2.2.2.2.2.2.2.2.2⟩ := by
  funext n k
  unfold gr args
  blk_point [iblk, V, idx t]

/-- The frames a point reads are its batch entry's. -/
theorem sp_eq (t : Fin cfg0.N) : sp m c t = seq ((args m c).xs ⟨t, (idx t).2.2.2.2.2.2.2.2.2.2.2.2.2.2⟩) := by
  unfold sp frm args
  refine congrArg seq (funext fun l => funext fun n => funext fun d => ?_)
  blk_point [iblk, V, idx t]

/-- So are the frames of the other input. -/
theorem xs_eq (t : Fin cfg0.N) : xs m c t = seq ((args m c).x ⟨t, (idx t).2.2.2.2.2.2.2.2.2.2.2.2.2.2⟩) := by
  unfold xs frm args
  refine congrArg seq (funext fun l => funext fun n => funext fun d => ?_)
  blk_point [iblk, V, idx t]

/-- After the launch the first output array holds every batch entry's residual output. -/
theorem final12 : (dats m 0 c).arrAt 12 cfg0.N
    = fun i : S8x10x512x64.Idx => (args m c).residual Consts.eps (i 0) (i 1) (i 2) (i 3) := by
  refine (dats m 0 c).arrAt_eq_of_covers 12 _ (by decide +kernel) fun t hf y => ?_
  blk_simp
  rw [after0_12, (point m c t y (fun a => ⟨0, by fin_cases a <;> decide⟩)).1, par_eq, gr_eq, gr_eq, sp_eq, xs_eq]
  have e0 : (win0_12.blk t).view.emb y 0 = (⟨t, (idx t).2.2.2.2.2.2.2.2.2.2.2.2.2.2⟩ : Fin 8) := by
    apply Fin.ext
    blk_simp [idx t]
  have e1 : win0_12.index t 1 = 0 := by rw [(idx t).2.2.2.2.2.2.2.2.2.2.2.2.1]; rfl
  have e2 : (win0_12.blk t).view.emb y 2 = y 2 := by
    apply Fin.ext
    blk_simp [idx t]
  have e3 : (win0_12.blk t).view.emb y 3 = y 3 := by
    apply Fin.ext
    blk_simp [idx t]
  rw [e0, e1, e2, e3, Nat.zero_mul, Nat.zero_add]
  rfl

/-- After the launch the second output array holds every batch entry's forecast. -/
theorem final13 : (dats m 0 c).arrAt 13 cfg0.N
    = fun i : S8x6x512x256.Idx => (args m c).forecast (i 0) (i 1) (i 2) (i 3) := by
  refine (dats m 0 c).arrAt_eq_of_covers 13 _ (by decide +kernel) fun t hf y => ?_
  blk_simp
  rw [after0_13, (point m c t (fun a => ⟨0, by fin_cases a <;> decide⟩) y).2, par_eq, gr_eq, gr_eq, sp_eq]
  have e0 : (win0_13.blk t).view.emb y 0 = (⟨t, (idx t).2.2.2.2.2.2.2.2.2.2.2.2.2.2⟩ : Fin 8) := by
    apply Fin.ext
    blk_simp [idx t]
  have e1 : win0_13.index t 1 = 0 := by rw [(idx t).2.2.2.2.2.2.2.2.2.2.2.2.2.1]; rfl
  have e2 : (win0_13.blk t).view.emb y 2 = y 2 := by
    apply Fin.ext
    blk_simp [idx t]
  have e3 : (win0_13.blk t).view.emb y 3 = y 3 := by
    apply Fin.ext
    blk_simp [idx t]
  rw [e0, e1, e2, e3, Nat.zero_mul, Nat.zero_add]
  rfl

end Cert.KernelIdeal.Array

end
-- ==== Proof.Layer.lean ====
/- What the reference's graph convolution of one window computes, and that of its ten windows. -/
module

public import proofs.«01_k».proof.Proof.Spec
public import proofs.«01_k».proof.Proof.Consts
public import proofs.«01_k».proof.Proof.Gen.ReferenceIdeal.Run
public import Idealize.ShloMosaic.Lib.StableHlo.Run

@[expose] public section

set_option maxRecDepth 16384

noncomputable section

namespace Cert.ReferenceIdeal.Layer

open Cert.ReferenceIdeal Cert.ReferenceIdeal.Gen Cert.Spec Idealize.ShloMosaic Idealize.ShloMosaic.TcCoe

/-- A window of three frames through the temporal layer. -/
def actv (W : FVec Ideal S8x3x512x64 .f32) (w : FVec Ideal S192x192 .f32) : FVec Ideal S8x1x512x3x64 .f32 :=
  let part (a : FVec Ideal S8x1x512x64 .f32) : FVec Ideal S8x1x512x1x64 .f32 :=
    broadcastInDim S8x1x512x1x64 ![0, 1, 2, 4] bcast_S8x1x512x64_S8x1x512x1x64_0_1_2_4 a
  let win := shapeCast _ (concatenate S8x1x512x3x64 3
    [⟨S8x1x512x1x64, part (extractStridedSlice S8x1x512x64 ![0, 0, 0, 0] W slices_S8x3x512x64_S8x1x512x64_0_0_0_0)⟩,
      ⟨S8x1x512x1x64, part (extractStridedSlice S8x1x512x64 ![0, 1, 0, 0] W slices_S8x3x512x64_S8x1x512x64_0_1_0_0)⟩,
      ⟨S8x1x512x1x64, part (extractStridedSlice S8x1x512x64 ![0, 2, 0, 0] W slices_S8x3x512x64_S8x1x512x64_0_2_0_0)⟩]
    concatenates_S8x1x512x1x64_S8x1x512x1x64_S8x1x512x1x64_S8x1x512x3x64_d3) shapeCasts_S8x1x512x3x64_S8x1x512x192
  shapeCast _ (Host.tanh (Host.dotGeneral dot_S8x1x512x192_S192x192_S8x1x512x192_3_0_012_1_n_n none win
    (transpose S192x192 [1, 0] w transposes_S192x192_S192x192_1_0))) shapeCasts_S8x1x512x192_S8x1x512x3x64

/-- Its three positions one under another. -/
def under (T : FVec Ideal S8x1x512x3x64 .f32) : FVec Ideal S8x1x1536x64 .f32 :=
  shapeCast _ (transpose S8x1x3x512x64 [0, 1, 3, 2, 4] T transposes_S8x1x512x3x64_S8x1x3x512x64_0_1_3_2_4)
    shapeCasts_S8x1x3x512x64_S8x1x1536x64

/-- The mean of its three positions. -/
def mean (T : FVec Ideal S8x1x512x3x64 .f32) : FVec Ideal S8x1x512x64 .f32 :=
  Host.divf (Host.reduceAdd T (constant S_ .f32 0x00000000#32) reducesTo_S8x1x512x3x64_S8x1x512x64_d3 h_S_)
    (broadcastInDim S8x1x512x64 ![] bcast_S_S8x1x512x64 (constant S_ .f32 0x40400000#32))

/-- A graph of the batch applied to stacked positions. -/
def prop (i : Fin 4 → ℕ) (h : S2x8x512x1536.Slices i S1x8x512x1536) (D : FVec Ideal S2x8x512x1536 .f32)
    (K : FVec Ideal S8x1x1536x64 .f32) : FVec Ideal S8x1x512x64 .f32 :=
  broadcastInDim S8x1x512x64 ![0, 2, 3] bcast_S8x512x64_S8x1x512x64_0_2_3
    (Host.dotGeneral dot_S8x512x1536_S8x1536x64_S8x512x64_2_1_1_2_0_0 none
      (shapeCast _ (broadcastInDim S8x1x512x1536 ![0, 2, 3] bcast_S8x512x1536_S8x1x512x1536_0_2_3
        (shapeCast _ (extractStridedSlice S1x8x512x1536 i D h) shapeCasts_S1x8x512x1536_S8x512x1536))
        shapeCasts_S8x1x512x1536_S8x512x1536)
      (shapeCast _ K shapeCasts_S8x1x1536x64_S8x1536x64))

/-- The layer that mixes the mean and the two graphs' results. -/
def mixed (a b c : FVec Ideal S8x1x512x64 .f32) (w : FVec Ideal S64x192 .f32) (v : FVec Ideal S64 .f32) :
    FVec Ideal S8x1x512x64 .f32 :=
  addf (Host.dotGeneral dot_S8x1x512x192_S192x64_S8x1x512x64_3_0_012_1_n_n none
    (concatenate S8x1x512x192 3 [⟨S8x1x512x64, a⟩, ⟨S8x1x512x64, b⟩, ⟨S8x1x512x64, c⟩]
      concatenates_S8x1x512x64_S8x1x512x64_S8x1x512x64_S8x1x512x192_d3)
    (transpose S192x64 [1, 0] w transposes_S64x192_S192x64_1_0))
    (broadcastInDim S8x1x512x64 ![0, 1, 2, 3] bcast_S1x1x1x64_S8x1x512x64_0_1_2_3
      (broadcastInDim S1x1x1x64 ![3] bcast_S64_S1x1x1x64_3 v))

/-- The activated window, entry by entry. -/
theorem actv_at (W : FVec Ideal S8x3x512x64 .f32) (w : FVec Ideal S192x192 .f32) (b : Fin 8) (z : Fin 1) (n : Fin 512)
    (j : Fin 3) (d : Fin 64) :
    actv W w (ix5 b z n j d)
      = act (fun k o => w (ix2 o k)) (fun n d => W (ix4 b 0 n d)) (fun n d => W (ix4 b 1 n d)) (fun n d => W (ix4 b 2 n d))
        n ⟨j * 64 + d, by have := j.isLt; have := d.isLt; omega⟩ := by
  unfold act
  pointwise [actv]
  exact congrArg Ideal.tanh (Finset.sum_congr rfl fun x _ => by rw [cat3_div])

/-- The stacked positions, entry by entry. -/
theorem under_at (T : FVec Ideal S8x1x512x3x64 .f32) (A : Fin 8 → Mat 512 192)
    (h : ∀ b z n j d, T (ix5 b z n j d) = A b n ⟨j * 64 + d, by have := j.isLt; have := d.isLt; omega⟩)
    (b : Fin 8) (z : Fin 1) (k : Fin 1536) (d : Fin 64) :
    under T (ix4 b z k d) = stk (A b) k d := by
  unfold stk
  pointwise [under]
  exact h _ _ _ _ _

/-- The mean of the positions, entry by entry. -/
theorem mean_at (T : FVec Ideal S8x1x512x3x64 .f32) (A : Fin 8 → Mat 512 192)
    (h : ∀ b z n j d, T (ix5 b z n j d) = A b n ⟨j * 64 + d, by have := j.isLt; have := d.isLt; omega⟩)
    (b : Fin 8) (z : Fin 1) (n : Fin 512) (d : Fin 64) :
    mean T (ix4 b z n d) = mean3 (A b) n d := by
  unfold mean3
  pointwise [mean]
  rw [Fin.sum_univ_three, Consts.three, Ideal.div_coe (by norm_num), h, h, h]
  congr 4
  apply Fin.ext
  simp

/-- A graph applied to the stacked positions, entry by entry. -/
theorem prop_at (e : Fin 2) (he) (D : FVec Ideal S2x8x512x1536 .f32)
    (K : FVec Ideal S8x1x1536x64 .f32) (A : Fin 8 → Mat 512 192)
    (h : ∀ b z k d, K (ix4 b z k d) = stk (A b) k d)
    (b : Fin 8) (z : Fin 1) (n : Fin 512) (d : Fin 64) :
    prop ![e, 0, 0, 0] he D K (ix4 b z n d) = agg (fun n k => D (ix4 e b n k)) (A b) n d := by
  unfold agg
  pointwise [prop]
  exact Finset.sum_congr rfl fun x _ => by rw [h]

/-- The mixing layer, entry by entry. -/
theorem mixed_at (a b c : FVec Ideal S8x1x512x64 .f32) (w : FVec Ideal S64x192 .f32) (v : FVec Ideal S64 .f32)
    (i : Fin 8) (z : Fin 1) (n : Fin 512) (o : Fin 64) :
    mixed a b c w v (ix4 i z n o)
      = ∑ k : Fin 192, cat3 (fun n d => a (ix4 i z n d)) (fun n d => b (ix4 i z n d)) (fun n d => c (ix4 i z n d)) n k
        * w (ix2 o k) + v (ix1 o) := by
  obtain rfl : z = 0 := Subsingleton.elim _ _
  unfold cat3
  pointwise [mixed]

/-- The graph convolution of one activated window. -/
def convv (T : FVec Ideal S8x1x512x3x64 .f32) (D : FVec Ideal S2x8x512x1536 .f32) (w : FVec Ideal S64x192 .f32)
    (v : FVec Ideal S64 .f32) : FVec Ideal S8x1x512x64 .f32 :=
  mixed (mean T) (prop ![0, 0, 0, 0] slices_S2x8x512x1536_S1x8x512x1536_0_0_0_0 D (under T))
    (prop ![1, 0, 0, 0] slices_S2x8x512x1536_S1x8x512x1536_1_0_0_0 D (under T)) w v

/-- The convolution of an activated window, entry by entry. -/
theorem convv_at (T : FVec Ideal S8x1x512x3x64 .f32) (D : FVec Ideal S2x8x512x1536 .f32) (w : FVec Ideal S64x192 .f32)
    (v : FVec Ideal S64 .f32) (A : Fin 8 → Mat 512 192) (p : Par) (hw : ∀ k o, w (ix2 o k) = p.wg k o)
    (hv : ∀ o, v (ix1 o) = p.bg o)
    (h : ∀ b z n j d, T (ix5 b z n j d) = A b n ⟨j * 64 + d, by have := j.isLt; have := d.isLt; omega⟩)
    (b : Fin 8) (z : Fin 1) (n : Fin 512) (o : Fin 64) :
    convv T D w v (ix4 b z n o)
      = conv p (fun n k => D (ix4 0 b n k)) (fun n k => D (ix4 1 b n k)) (A b) n o := by
  have e0 : ∀ n d, mean T (ix4 b z n d) = mean3 (A b) n d := fun n d => mean_at T A h b z n d
  have e1 : ∀ n d, prop ![0, 0, 0, 0] slices_S2x8x512x1536_S1x8x512x1536_0_0_0_0 D (under T) (ix4 b z n d)
      = agg (fun n k => D (ix4 0 b n k)) (A b) n d := fun n d => prop_at 0 _ D _ A (under_at T A h) b z n d
  have e2 : ∀ n d, prop ![1, 0, 0, 0] slices_S2x8x512x1536_S1x8x512x1536_1_0_0_0 D (under T) (ix4 b z n d)
      = agg (fun n k => D (ix4 1 b n k)) (A b) n d := fun n d => prop_at 1 _ D _ A (under_at T A h) b z n d
  unfold convv conv
  rw [mixed_at]
  simp only [e0, e1, e2, hw, hv]

end Cert.ReferenceIdeal.Layer

end
-- ==== Proof.Ten.lean ====
/- What the reference's hidden states of the ten windows are. -/
module

public import proofs.«01_k».proof.Proof.Spec
public import proofs.«01_k».proof.Proof.Consts
public import proofs.«01_k».proof.Proof.Gen.ReferenceIdeal.Run
public import Idealize.ShloMosaic.Lib.StableHlo.Run

@[expose] public section

set_option maxRecDepth 16384

noncomputable section

namespace Cert.ReferenceIdeal.Ten

open Cert.ReferenceIdeal Cert.ReferenceIdeal.Gen Cert.ReferenceIdeal.Value Cert.Spec Idealize.ShloMosaic
  Idealize.ShloMosaic.TcCoe

variable (V0 : Valuation τ sig (Elt Ideal))

/-- The call's arguments as the reference reads them. -/
def args : Args where
  x := fun b l n d => V0 (Proc.devRef .tc main_arg0) (ix4 b l n d)
  xs := fun b l n d => V0 (Proc.devRef .tc main_arg1) (ix4 b l n d)
  dyn := fun i b n k => V0 (Proc.devRef .tc main_arg2) (ix4 i b n k)
  p :=
  { wfc := fun k o => V0 (Proc.devRef .tc main_arg4) (ix2 o k)
    wg := fun k o => V0 (Proc.devRef .tc main_arg5) (ix2 o k)
    bg := fun o => V0 (Proc.devRef .tc main_arg6) (ix1 o)
    wbc := fun k o => V0 (Proc.devRef .tc main_arg7) (ix2 o k)
    bbc := fun o => V0 (Proc.devRef .tc main_arg8) (ix1 o)
    wfk := fun k o => V0 (Proc.devRef .tc main_arg9) (ix2 o k)
    bfk := fun o => V0 (Proc.devRef .tc main_arg10) (ix1 o)
    lns := fun o => V0 (Proc.devRef .tc main_arg11) (ix1 o)
    lnb := fun o => V0 (Proc.devRef .tc main_arg12) (ix1 o) }

/-- The activated window of batch entry `b` that starts at `l`. -/
def win (b : Fin 8) (l : ℕ) : Mat 512 192 := tw (args V0).p.wfc (seq ((args V0).xs b)) l

/-- A frame's place among a window's three. -/
def part (a : FVec Ideal S8x10x512x64 .f32) : FVec Ideal S8x10x512x1x64 .f32 :=
  broadcastInDim S8x10x512x1x64 ![0, 1, 2, 4] bcast_S8x10x512x64_S8x10x512x1x64_0_1_2_4 a

/-- The three frames of every window, one beside another. -/
def wins (a b c : FVec Ideal S8x10x512x64 .f32) : FVec Ideal S8x10x512x192 .f32 :=
  shapeCast _ (concatenate S8x10x512x3x64 3
    [⟨S8x10x512x1x64, part a⟩, ⟨S8x10x512x1x64, part b⟩, ⟨S8x10x512x1x64, part c⟩]
    concatenates_S8x10x512x1x64_S8x10x512x1x64_S8x10x512x1x64_S8x10x512x3x64_d3) shapeCasts_S8x10x512x3x64_S8x10x512x192

/-- The temporal layer over every window. -/
def actvs (W : FVec Ideal S8x10x512x192 .f32) (w : FVec Ideal S192x192 .f32) : FVec Ideal S8x10x512x3x64 .f32 :=
  shapeCast _ (Host.tanh (Host.dotGeneral dot_S8x10x512x192_S192x192_S8x10x512x192_3_0_012_1_n_n none W
    (transpose S192x192 [1, 0] w transposes_S192x192_S192x192_1_0))) shapeCasts_S8x10x512x192_S8x10x512x3x64

/-- The frames side by side, entry by entry. -/
theorem wins_at (a b c : FVec Ideal S8x10x512x64 .f32) (i : Fin 8) (l : Fin 10) (n : Fin 512) (k : Fin 192) :
    wins a b c (ix4 i l n k)
      = cat3 (fun n d => a (ix4 i l n d)) (fun n d => b (ix4 i l n d)) (fun n d => c (ix4 i l n d)) n k := by
  pointwise [wins, part]
  rw [cat3_div]

/-- The temporal layer, entry by entry. -/
theorem actvs_at (W : FVec Ideal S8x10x512x192 .f32) (w : FVec Ideal S192x192 .f32)
    (b : Fin 8) (l : Fin 10) (n : Fin 512) (j : Fin 3) (d : Fin 64) :
    actvs W w (ix5 b l n j d) = Ideal.tanh (∑ k : Fin 192, W (ix4 b l n k)
      * w (ix2 ⟨j * 64 + d, by have := j.isLt; have := d.isLt; omega⟩ k)) := by
  pointwise [actvs]

/-- Ten consecutive frames of the twelve, entry by entry. -/
theorem frames_at (X : FVec Ideal S8x12x512x64 .f32) (b : Fin 8) (l : Fin 10) (n : Fin 512) (d : Fin 64) :
    extractStridedSlice S8x10x512x64 ![0, 0, 0, 0] X slices_S8x12x512x64_S8x10x512x64_0_0_0_0 (ix4 b l n d)
        = seq (fun l n d => X (ix4 b l n d)) l n d
      ∧ extractStridedSlice S8x10x512x64 ![0, 1, 0, 0] X slices_S8x12x512x64_S8x10x512x64_0_1_0_0 (ix4 b l n d)
        = seq (fun l n d => X (ix4 b l n d)) (l + 1) n d
      ∧ extractStridedSlice S8x10x512x64 ![0, 2, 0, 0] X slices_S8x12x512x64_S8x10x512x64_0_2_0_0 (ix4 b l n d)
        = seq (fun l n d => X (ix4 b l n d)) (l + 2) n d := by
  have hl := l.isLt
  rw [seq_eq _ _ (by omega), seq_eq _ _ (by omega), seq_eq _ _ (by omega)]
  refine ⟨?_, ?_, ?_⟩
  · pointwise []
  · pointwise []
    simp only [Nat.add_comm 1]
  · pointwise []
    simp only [Nat.add_comm 2]

/-- The ten activated windows. -/
theorem v11_at (b : Fin 8) (l : Fin 10) (n : Fin 512) (j : Fin 3) (d : Fin 64) :
    res_main_v11 V0 (ix5 b l n j d) = win V0 b l n ⟨j * 64 + d, by have := j.isLt; have := d.isLt; omega⟩ := by
  refine (actvs_at (wins _ _ _) (V0 (Proc.devRef .tc main_arg4)) b l n j d).trans ?_
  simp only [wins_at, frames_at]
  rfl

/-- Their positions one under another. -/
theorem v16_at (b : Fin 8) (l : Fin 10) (k : Fin 1536) (d : Fin 64) :
    res_main_v16 V0 (ix4 b l k d) = stk (win V0 b l) k d := by
  unfold stk
  pointwise [res_main_v16]
  exact v11_at V0 _ _ _ _ _

/-- The mean, entry by entry. -/
theorem mean_at (b : Fin 8) (l : Fin 10) (n : Fin 512) (d : Fin 64) :
    Ideal.div (∑ x : Fin 3, res_main_v11 V0 (ix5 b l n x d)) (Ideal.ofBits .f32 0x40400000#32) = mean3 (win V0 b l) n d := by
  unfold mean3
  rw [Fin.sum_univ_three, Consts.three, Ideal.div_coe (by norm_num), v11_at, v11_at, v11_at]
  congr 4
  apply Fin.ext
  simp

/-- The hidden states of the ten windows. -/
theorem v34_at (b : Fin 8) (l : Fin 10) (n : Fin 512) (o : Fin 64) :
    res_main_v34 V0 (ix4 b l n o) = (args V0).hidden b l n o := by
  unfold Args.hidden hid conv
  pointwise [res_main_v34]
  simp only [mean_at, v16_at]
  rfl

end Cert.ReferenceIdeal.Ten

end
-- ==== Proof.Rolling.lean ====
/- The frames the reference rolls out and the forecast it makes of them. -/
module

public import proofs.«01_k».proof.Proof.Layer
public import proofs.«01_k».proof.Proof.Ten
public import proofs.«01_k».proof.Proof.Gen.ReferenceIdeal.Run
public import Idealize.ShloMosaic.Lib.StableHlo.Run

@[expose] public section

set_option maxRecDepth 16384

noncomputable section

namespace Cert.ReferenceIdeal.Rolling

open Cert.ReferenceIdeal Cert.ReferenceIdeal.Gen Cert.ReferenceIdeal.Value Cert.ReferenceIdeal.Layer Cert.ReferenceIdeal.Ten
  Cert.Spec Idealize.ShloMosaic Idealize.ShloMosaic.TcCoe

variable (V0 : Valuation τ sig (Elt Ideal))

/-- One step of the rollout from a window of three frames. -/
def next (W : FVec Ideal S8x3x512x64 .f32) : FVec Ideal S8x1x512x64 .f32 :=
  convv (actv W (V0 (Proc.devRef .tc main_arg4))) (V0 (Proc.devRef .tc main_arg2)) (V0 (Proc.devRef .tc main_arg5))
    (V0 (Proc.devRef .tc main_arg6))

/-- A window of the rolled-out sequence gives its next frame. -/
theorem next_at (W : FVec Ideal S8x3x512x64 .f32) (k : ℕ)
    (h0 : ∀ b n d, W (ix4 b 0 n d) = (args V0).rolled b k n d)
    (h1 : ∀ b n d, W (ix4 b 1 n d) = (args V0).rolled b (k + 1) n d)
    (h2 : ∀ b n d, W (ix4 b 2 n d) = (args V0).rolled b (k + 2) n d)
    (b : Fin 8) (z : Fin 1) (n : Fin 512) (o : Fin 64) :
    next V0 W (ix4 b z n o) = (args V0).rolled b (k + 3) n o := by
  refine (convv_at _ _ _ _ (fun b => act (args V0).p.wfc ((args V0).rolled b k) ((args V0).rolled b (k + 1))
    ((args V0).rolled b (k + 2))) (args V0).p (fun _ _ => rfl) (fun _ => rfl) (fun b z n j d => ?_) b z n o).trans ?_
  · rw [actv_at]
    simp only [h0, h1, h2]
    rfl
  · rfl

/-- The last hidden state is the first frame predicted. -/
theorem v35_at (b : Fin 8) (z : Fin 1) (n : Fin 512) (d : Fin 64) :
    res_main_v35 V0 (ix4 b z n d) = (args V0).rolled b 2 n d := by
  pointwise [res_main_v35]
  exact v34_at V0 b 9 n d

/-- The second predicted frame. -/
theorem v74_at (b : Fin 8) (z : Fin 1) (n : Fin 512) (d : Fin 64) :
    res_main_v74 V0 (ix4 b z n d) = (args V0).rolled b 3 n d := by
  refine next_at V0 (res_main_v37 V0) 0 (fun b n d => ?_) (fun b n d => ?_) (fun b n d => ?_) b z n d
  · pointwise [res_main_v37]
    exact (seq_eq ((args V0).xs b) 10 (by decide) n d).symm
  · pointwise [res_main_v37]
    exact (seq_eq ((args V0).xs b) 11 (by decide) n d).symm
  · pointwise [res_main_v37]
    exact v35_at V0 b _ n d

/-- The third predicted frame. -/
theorem v113_at (b : Fin 8) (z : Fin 1) (n : Fin 512) (d : Fin 64) :
    res_main_v113 V0 (ix4 b z n d) = (args V0).rolled b 4 n d := by
  refine next_at V0 (res_main_v76 V0) 1 (fun b n d => ?_) (fun b n d => ?_) (fun b n d => ?_) b z n d
  · pointwise [res_main_v76]
    exact (seq_eq ((args V0).xs b) 11 (by decide) n d).symm
  · pointwise [res_main_v76]
    exact v35_at V0 b _ n d
  · pointwise [res_main_v76]
    exact v74_at V0 b _ n d

/-- A window made of three frames of the sequence gives the next one. -/
theorem three_at (a b c : FVec Ideal S8x1x512x64 .f32) (k : ℕ)
    (h0 : ∀ i z n d, a (ix4 i z n d) = (args V0).rolled i k n d)
    (h1 : ∀ i z n d, b (ix4 i z n d) = (args V0).rolled i (k + 1) n d)
    (h2 : ∀ i z n d, c (ix4 i z n d) = (args V0).rolled i (k + 2) n d)
    (i : Fin 8) (z : Fin 1) (n : Fin 512) (d : Fin 64) :
    next V0 (concatenate S8x3x512x64 1 [⟨S8x1x512x64, a⟩, ⟨S8x1x512x64, b⟩, ⟨S8x1x512x64, c⟩]
      concatenates_S8x1x512x64_S8x1x512x64_S8x1x512x64_S8x3x512x64_d1) (ix4 i z n d) = (args V0).rolled i (k + 3) n d := by
  refine next_at V0 _ k (fun b n d => ?_) (fun b n d => ?_) (fun b n d => ?_) i z n d
  · pointwise []
    exact h0 _ _ _ _
  · pointwise []
    exact h1 _ _ _ _
  · pointwise []
    exact h2 _ _ _ _

/-- The fourth predicted frame. -/
theorem v151_at (b : Fin 8) (z : Fin 1) (n : Fin 512) (d : Fin 64) :
    res_main_v151 V0 (ix4 b z n d) = (args V0).rolled b 5 n d :=
  three_at V0 _ _ _ 2 (v35_at V0) (v74_at V0) (v113_at V0) b z n d

/-- The fifth predicted frame. -/
theorem v189_at (b : Fin 8) (z : Fin 1) (n : Fin 512) (d : Fin 64) :
    res_main_v189 V0 (ix4 b z n d) = (args V0).rolled b 6 n d :=
  three_at V0 _ _ _ 3 (v74_at V0) (v113_at V0) (v151_at V0) b z n d

/-- The sixth predicted frame. -/
theorem last_at (b : Fin 8) (z : Fin 1) (n : Fin 512) (d : Fin 64) :
    next V0 (res_main_v190 V0) (ix4 b z n d) = (args V0).rolled b 7 n d :=
  three_at V0 _ _ _ 4 (v113_at V0) (v151_at V0) (v189_at V0) b z n d

/-- Six frames one after another through the forecast's layer. -/
def cast (a b c d e f : FVec Ideal S8x1x512x64 .f32) (w : FVec Ideal S256x64 .f32) (v : FVec Ideal S256 .f32) :
    FVec Ideal S8x6x512x256 .f32 :=
  addf (Host.dotGeneral dot_S8x6x512x64_S64x256_S8x6x512x256_3_0_012_1_n_n none
    (concatenate S8x6x512x64 1 [⟨S8x1x512x64, a⟩, ⟨S8x1x512x64, b⟩, ⟨S8x1x512x64, c⟩, ⟨S8x1x512x64, d⟩, ⟨S8x1x512x64, e⟩,
      ⟨S8x1x512x64, f⟩]
      concatenates_S8x1x512x64_S8x1x512x64_S8x1x512x64_S8x1x512x64_S8x1x512x64_S8x1x512x64_S8x6x512x64_d1)
    (transpose S64x256 [1, 0] w transposes_S256x64_S64x256_1_0))
    (broadcastInDim S8x6x512x256 ![0, 1, 2, 3] bcast_S1x1x1x256_S8x6x512x256_0_1_2_3
      (broadcastInDim S1x1x1x256 ![3] bcast_S256_S1x1x1x256_3 v))

/-- The forecast the reference makes. -/
def forecast : FVec Ideal S8x6x512x256 .f32 :=
  cast (res_main_v35 V0) (res_main_v74 V0) (res_main_v113 V0) (res_main_v151 V0) (res_main_v189 V0)
    (next V0 (res_main_v190 V0)) (V0 (Proc.devRef .tc main_arg9)) (V0 (Proc.devRef .tc main_arg10))

/-- The reference's forecast, entry by entry. -/
theorem forecast_eq : forecast V0 = fun i => (args V0).forecast (i 0) (i 1) (i 2) (i 3) := by
  funext i
  idx_vars i
  unfold Args.forecast fore
  pointwise [forecast, cast]
  simp only [v35_at, v74_at, v113_at, v151_at, v189_at, last_at]
  exact congrArg (· + V0 (Proc.devRef .tc main_arg10) (ix1 i3)) (Finset.sum_congr rfl fun x _ =>
    congrArg (· * V0 (Proc.devRef .tc main_arg9) (ix2 i3 x)) (pick_eq ((args V0).rolled i0) i1 i2 x))

end Cert.ReferenceIdeal.Rolling

end
-- ==== Proof.Output.lean ====
/- The residual output of the reference. -/
module

public import proofs.«01_k».proof.Proof.Ten
public import proofs.«01_k».proof.Proof.Gen.ReferenceIdeal.Run
public import Idealize.ShloMosaic.Lib.StableHlo.Run

@[expose] public section

set_option maxRecDepth 16384

noncomputable section

namespace Cert.ReferenceIdeal.Output

open Cert.ReferenceIdeal Cert.ReferenceIdeal.Gen Cert.ReferenceIdeal.Value Cert.ReferenceIdeal.Ten Cert.Spec
  Idealize.ShloMosaic Idealize.ShloMosaic.TcCoe

variable (V0 : Valuation τ sig (Elt Ideal))

/-- The input less the backcast. -/
theorem v241_at (b : Fin 8) (l : Fin 10) (n : Fin 512) (d : Fin 64) :
    res_main_v241 V0 (ix4 b l n d)
      = resid (args V0).p ((args V0).hidden b l) (seq ((args V0).x b) (l + 2)) n d := by
  have hl := l.isLt
  unfold resid
  rw [seq_eq _ _ (by omega)]
  pointwise [res_main_v241]
  simp only [v34_at, Nat.add_comm 2]
  rfl

/-- The mean over the features. -/
def mean (v : FVec Ideal S8x10x512x64 .f32) : FVec Ideal S8x10x512x1 .f32 :=
  Host.divf (broadcastInDim S8x10x512x1 ![0, 1, 2] bcast_S8x10x512_S8x10x512x1_0_1_2
    (Host.reduceAdd v (constant S_ .f32 0x00000000#32) reducesTo_S8x10x512x64_S8x10x512_d3 h_S_))
    (broadcastInDim S8x10x512x1 ![] bcast_S_S8x10x512x1 (constant S_ .f32 0x42800000#32))

/-- The features less their mean. -/
def centred (v : FVec Ideal S8x10x512x64 .f32) : FVec Ideal S8x10x512x64 .f32 :=
  subf v (broadcastInDim S8x10x512x64 ![0, 1, 2, 3] bcast_S8x10x512x1_S8x10x512x64_0_1_2_3 (mean v))

/-- The number of features the variance divides by. -/
def count : FVec Ideal S_ .f32 := subf (constant S_ .f32 0x42800000#32) (sitofp .f32 (constantI S_ 32 0#32))

/-- The variance over the features, which stands only where the count is positive. -/
def spread (v : FVec Ideal S8x10x512x64 .f32) : FVec Ideal S8x10x512x1 .f32 :=
  select (broadcastInDim S8x10x512x1 ![] bcast_S_S8x10x512x1 (cmpf .ogt count (constant S_ .f32 0x00000000#32)))
    (Host.divf (broadcastInDim S8x10x512x1 ![0, 1, 2] bcast_S8x10x512_S8x10x512x1_0_1_2
      (Host.reduceAdd (mulf (centred v) (centred v)) (constant S_ .f32 0x00000000#32) reducesTo_S8x10x512x64_S8x10x512_d3 h_S_))
      (broadcastInDim S8x10x512x1 ![] bcast_S_S8x10x512x1 count))
    (broadcastInDim S8x10x512x1 ![] bcast_S_S8x10x512x1 (id (constant S_ .f32 0x7FC00000#32)))

/-- The normalisation over the features. -/
def normed (v : FVec Ideal S8x10x512x64 .f32) (s t : FVec Ideal S64 .f32) : FVec Ideal S8x10x512x64 .f32 :=
  addf (mulf (Host.divf (centred v)
    (broadcastInDim S8x10x512x64 ![0, 1, 2, 3] bcast_S8x10x512x1_S8x10x512x64_0_1_2_3
      (Host.sqrt (addf (spread v) (broadcastInDim S8x10x512x1 ![] bcast_S_S8x10x512x1 (constant S_ .f32 0x3727C5AC#32))))))
    (broadcastInDim S8x10x512x64 ![0, 1, 2, 3] bcast_S1x1x1x64_S8x10x512x64_0_1_2_3
      (broadcastInDim S1x1x1x64 ![3] bcast_S64_S1x1x1x64_3 s)))
    (broadcastInDim S8x10x512x64 ![0, 1, 2, 3] bcast_S1x1x1x64_S8x10x512x64_0_1_2_3
      (broadcastInDim S1x1x1x64 ![3] bcast_S64_S1x1x1x64_3 t))

/-- The mean, entry by entry. -/
theorem mean_at (v : FVec Ideal S8x10x512x64 .f32) (b : Fin 8) (l : Fin 10) (n : Fin 512) (z : Fin 1) :
    mean v (ix4 b l n z) = mu (fun n d => v (ix4 b l n d)) n := by
  unfold mu
  pointwise [mean]
  rw [Consts.sixtyfour]

/-- The centred features, entry by entry. -/
theorem centred_at (v : FVec Ideal S8x10x512x64 .f32) (b : Fin 8) (l : Fin 10) (n : Fin 512) (d : Fin 64) :
    centred v (ix4 b l n d) = v (ix4 b l n d) - mu (fun n d => v (ix4 b l n d)) n := by
  pointwise [centred]
  rw [mean_at]

/-- The count is sixty-four. -/
theorem count_at (j : S_.Idx) : count j = ((64 : ℝ) : EReal) := by
  pointwise [count]
  have h : FloatOps.sitofp (F := Ideal) FTy.f32 0#32 = 0 := by
    show (((0#32).toInt : ℝ) : EReal) = 0
    simp
  rw [Consts.sixtyfour, h, sub_zero]

/-- The variance, entry by entry. -/
theorem spread_at (v : FVec Ideal S8x10x512x64 .f32) (b : Fin 8) (l : Fin 10) (n : Fin 512) (z : Fin 1) :
    spread v (ix4 b l n z) = var (fun n d => v (ix4 b l n d)) n := by
  unfold var
  pointwise [spread]
  simp only [count_at, centred_at]
  rw [if_pos (by exact_mod_cast (by norm_num : (0 : ℝ) < 64))]

/-- The normalisation, entry by entry. -/
theorem normed_at (v : FVec Ideal S8x10x512x64 .f32) (s t : FVec Ideal S64 .f32) (b : Fin 8) (l : Fin 10) (n : Fin 512)
    (d : Fin 64) :
    normed v s t (ix4 b l n d)
      = Ideal.div (v (ix4 b l n d) - mu (fun n d => v (ix4 b l n d)) n)
        (Ideal.sqrt (var (fun n d => v (ix4 b l n d)) n + Consts.eps)) * s (ix1 d) + t (ix1 d) := by
  unfold Consts.eps
  pointwise [normed]
  simp only [centred_at, spread_at]

/-- The residual output the reference makes. -/
def residual : FVec Ideal S8x10x512x64 .f32 :=
  normed (res_main_v241 V0) (V0 (Proc.devRef .tc main_arg11)) (V0 (Proc.devRef .tc main_arg12))

/-- The reference's residual output, entry by entry. -/
theorem residual_eq : residual V0 = fun i => (args V0).residual Consts.eps (i 0) (i 1) (i 2) (i 3) := by
  funext i
  idx_vars i
  unfold residual
  rw [normed_at]
  simp only [v241_at]
  rfl

end Cert.ReferenceIdeal.Output

end
-- ==== Proof.Equation.lean ====
/- The kernel's launch and the reference's run leave the same arrays. -/
module

public import proofs.«01_k».proof.Defs
public import proofs.«01_k».proof.Proof.Array
public import proofs.«01_k».proof.Proof.Rolling
public import proofs.«01_k».proof.Proof.Output
public import Idealize.ShloMosaic.Lib.Claim

@[expose] public section

set_option maxRecDepth 16384

noncomputable section

namespace Cert.Equation

open Cert.Spec Idealize.ShloMosaic Idealize.SL.Sem

/-- The arguments of a call, from the arrays that hold them. -/
def gather (x xs : FVec Ideal Cert.KernelIdeal.S8x12x512x64 .f32) (dyn : FVec Ideal Cert.KernelIdeal.S2x8x512x1536 .f32)
    (wfc : FVec Ideal Cert.KernelIdeal.S192x192 .f32) (wg : FVec Ideal Cert.KernelIdeal.S64x192 .f32)
    (bg : FVec Ideal Cert.KernelIdeal.S64 .f32) (wbc : FVec Ideal Cert.KernelIdeal.S64x64 .f32)
    (bbc : FVec Ideal Cert.KernelIdeal.S64 .f32) (wfk : FVec Ideal Cert.KernelIdeal.S256x64 .f32)
    (bfk : FVec Ideal Cert.KernelIdeal.S256 .f32) (lns lnb : FVec Ideal Cert.KernelIdeal.S64 .f32) : Args where
  x := fun b l n d => x (ix4 b l n d)
  xs := fun b l n d => xs (ix4 b l n d)
  dyn := fun i b n k => dyn (ix4 i b n k)
  p :=
  { wfc := fun k o => wfc (ix2 o k)
    wg := fun k o => wg (ix2 o k)
    bg := fun o => bg (ix1 o)
    wbc := fun k o => wbc (ix2 o k)
    bbc := fun o => bbc (ix1 o)
    wfk := fun k o => wfk (ix2 o k)
    bfk := fun o => bfk (ix1 o)
    lns := fun o => lns (ix1 o)
    lnb := fun o => lnb (ix1 o) }

/-- Equal arrays gather to equal arguments. -/
theorem gather_congr {x x' xs xs' dyn dyn' wfc wfc' wg wg' bg bg' wbc wbc' bbc bbc' wfk wfk' bfk bfk' lns lns' lnb lnb'}
    (h0 : x = x') (h1 : xs = xs') (h2 : dyn = dyn') (h4 : wfc = wfc') (h5 : wg = wg') (h6 : bg = bg') (h7 : wbc = wbc')
    (h8 : bbc = bbc') (h9 : wfk = wfk') (h10 : bfk = bfk') (h11 : lns = lns') (h12 : lnb = lnb') :
    gather x xs dyn wfc wg bg wbc bbc wfk bfk lns lnb = gather x' xs' dyn' wfc' wg' bg' wbc' bbc' wfk' bfk' lns' lnb' := by
  rw [h0, h1, h2, h4, h5, h6, h7, h8, h9, h10, h11, h12]

/-- The reference's residual output is the kernel's first array when both are called alike. -/
theorem residual_eq (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (h : Cert.ReferenceIdeal.Ten.args V0 = Cert.KernelIdeal.Array.args m c) :
    Cert.ReferenceIdeal.Output.residual V0 = (Cert.KernelIdeal.Gen.dats m 0 c).arrAt 12 Cert.KernelIdeal.cfg0.N := by
  rw [Cert.KernelIdeal.Array.final12, Cert.ReferenceIdeal.Output.residual_eq, h]

/-- The reference's forecast is the kernel's second array when both are called alike. -/
theorem forecast_eq (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (h : Cert.ReferenceIdeal.Ten.args V0 = Cert.KernelIdeal.Array.args m c) :
    Cert.ReferenceIdeal.Rolling.forecast V0 = (Cert.KernelIdeal.Gen.dats m 0 c).arrAt 13 Cert.KernelIdeal.cfg0.N := by
  rw [Cert.KernelIdeal.Array.final13, Cert.ReferenceIdeal.Rolling.forecast_eq, h]

/-- From equal arguments the kernel's ideal reading and the reference leave equal results, over the extended reals. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
  · have alike : ∀ c : Dev Cert.KernelIdeal.nD,
        Cert.ReferenceIdeal.Ten.args (StableHlo.launchContents m' c) = Cert.KernelIdeal.Array.args m c := fun c => by
      obtain ⟨h0, h1, h2, -, h4, h5, h6, h7, h8, h9, h10, h11, h12⟩ := hagree c
      exact gather_congr h0 h1 h2 h4 h5 h6 h7 h8 h9 h10 h11 h12
    exact (θ_run Cert.ReferenceIdeal.defs _ _).mono (fun r h c =>
      ⟨(h c).1.trans (residual_eq m c _ (alike c)), (h c).2.1.trans (forecast_eq m c _ (alike c)), (h c).2.2⟩)
      (Cert.ReferenceIdeal.Value.run (F := Ideal) m' g')

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The kernel runs from any memory and leaves its arguments as they were. -/
theorem frame_kernel : Cert.quiescent_Kernel (hKernel := Cert.Kernel.Gen.facts) :=
  fun m g _ => Cert.Kernel.Gen.frame m g

/-- So does its ideal reading. -/
theorem frame_ideal : Cert.quiescent_KernelIdeal (hKernelIdeal := Cert.KernelIdeal.Gen.facts) :=
  fun m g _ => Cert.KernelIdeal.Gen.frame m g

/-- And the reference, over the extended reals. -/
theorem frame_reference : Cert.quiescent_ReferenceIdeal (hReferenceIdeal := Cert.ReferenceIdeal.Gen.facts) := by
  intro m g _
  exact (θ_run Cert.ReferenceIdeal.defs _ _).mono
    (fun r h => ⟨fun c => (h c).2.2, sem_eq_zero_of_no_sems (by decide) r.2⟩) (Cert.ReferenceIdeal.Value.run (F := Ideal) m g)

/-- The one constant the ideal reading names is one third. -/
theorem preserves : Cert.preserves_Kernel_KernelIdeal :=
  IdealRules.named_const.statement Cert.KernelIdeal.κ "third" .f32 0x3EAAAAAB#32 ((1 / 3 : ℝ) : EReal) rfl

/-- Everything the certificate claims. -/
theorem claim : Cert.Claim :=
  ⟨Cert.Kernel.Gen.facts, Cert.KernelIdeal.Gen.facts, Cert.ReferenceIdeal.Gen.facts,
    frame_kernel, frame_ideal, frame_reference, preserves, Cert.Equation.algebraic⟩

end Cert.Proof

end
